-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x7168 : Shape := ⟨3, ![2, 128, 7168]⟩
abbrev S7168x2304 : Shape := ⟨2, ![7168, 2304]⟩
abbrev S56x18432 : Shape := ⟨2, ![56, 18432]⟩
abbrev S56x2304 : Shape := ⟨2, ![56, 2304]⟩
abbrev S256x7168 : Shape := ⟨2, ![256, 7168]⟩
abbrev S56x2304x8 : Shape := ⟨3, ![56, 2304, 8]⟩
abbrev S56x2304x1 : Shape := ⟨3, ![56, 2304, 1]⟩
abbrev S56x1x2304 : Shape := ⟨3, ![56, 1, 2304]⟩
abbrev S56x8x2304 : Shape := ⟨3, ![56, 8, 2304]⟩
abbrev S448x2304 : Shape := ⟨2, ![448, 2304]⟩
abbrev S_ : Shape := ⟨0, ![]⟩
abbrev S256x18432 : Shape := ⟨2, ![256, 18432]⟩
abbrev S7168x128 : Shape := ⟨2, ![7168, 128]⟩
abbrev S448x128 : Shape := ⟨2, ![448, 128]⟩
abbrev S256x1024 : Shape := ⟨2, ![256, 1024]⟩
abbrev S1x128 : Shape := ⟨2, ![1, 128]⟩
abbrev S16x128 : Shape := ⟨2, ![16, 128]⟩
abbrev S8x128 : Shape := ⟨2, ![8, 128]⟩
abbrev S16x256 : Shape := ⟨2, ![16, 256]⟩
abbrev S256x256 : Shape := ⟨2, ![256, 256]⟩
abbrev S32x256 : Shape := ⟨2, ![32, 256]⟩
abbrev S32x128 : Shape := ⟨2, ![32, 128]⟩
abbrev S16x128x1 : Shape := ⟨3, ![16, 128, 1]⟩

abbrev nBuf : Space → Nat
  | .hbm => 98
  | .vmem => 9
  | .smem => 0
  | _ => 0

abbrev bufTy : (tb : Table) → Fin (tcTables nBuf tb) → BufTy
  | .hbm, ⟨0, _⟩ => ⟨S2x128x7168, .bf16⟩
  | .hbm, ⟨1, _⟩ => ⟨S7168x2304, .i32⟩
  | .hbm, ⟨2, _⟩ => ⟨S56x18432, .bf16⟩
  | .hbm, ⟨3, _⟩ => ⟨S56x2304, .i32⟩
  | .hbm, ⟨4, _⟩ => ⟨S256x7168, .bf16⟩
  | .hbm, ⟨5, _⟩ => ⟨S56x2304x8, .bf16⟩
  | .hbm, ⟨6, _⟩ => ⟨S56x2304x1, .bf16⟩
  | .hbm, ⟨7, _⟩ => ⟨S56x2304, .bf16⟩
  | .hbm, ⟨8, _⟩ => ⟨S56x2304x1, .bf16⟩
  | .hbm, ⟨9, _⟩ => ⟨S56x2304, .bf16⟩
  | .hbm, ⟨10, _⟩ => ⟨S56x2304x1, .bf16⟩
  | .hbm, ⟨11, _⟩ => ⟨S56x2304, .bf16⟩
  | .hbm, ⟨12, _⟩ => ⟨S56x2304x1, .bf16⟩
  | .hbm, ⟨13, _⟩ => ⟨S56x2304, .bf16⟩
  | .hbm, ⟨14, _⟩ => ⟨S56x2304x1, .bf16⟩
  | .hbm, ⟨15, _⟩ => ⟨S56x2304, .bf16⟩
  | .hbm, ⟨16, _⟩ => ⟨S56x2304x1, .bf16⟩
  | .hbm, ⟨17, _⟩ => ⟨S56x2304, .bf16⟩
  | .hbm, ⟨18, _⟩ => ⟨S56x2304x1, .bf16⟩
  | .hbm, ⟨19, _⟩ => ⟨S56x2304, .bf16⟩
  | .hbm, ⟨20, _⟩ => ⟨S56x2304x1, .bf16⟩
  | .hbm, ⟨21, _⟩ => ⟨S56x2304, .bf16⟩
  | .hbm, ⟨22, _⟩ => ⟨S56x1x2304, .bf16⟩
  | .hbm, ⟨23, _⟩ => ⟨S56x1x2304, .bf16⟩
  | .hbm, ⟨24, _⟩ => ⟨S56x1x2304, .bf16⟩
  | .hbm, ⟨25, _⟩ => ⟨S56x1x2304, .bf16⟩
  | .hbm, ⟨26, _⟩ => ⟨S56x1x2304, .bf16⟩
  | .hbm, ⟨27, _⟩ => ⟨S56x1x2304, .bf16⟩
  | .hbm, ⟨28, _⟩ => ⟨S56x1x2304, .bf16⟩
  | .hbm, ⟨29, _⟩ => ⟨S56x1x2304, .bf16⟩
  | .hbm, ⟨30, _⟩ => ⟨S56x8x2304, .bf16⟩
  | .hbm, ⟨31, _⟩ => ⟨S448x2304, .bf16⟩
  | .hbm, ⟨32, _⟩ => ⟨S_, .i32⟩
  | .hbm, ⟨33, _⟩ => ⟨S56x2304, .i32⟩
  | .hbm, ⟨34, _⟩ => ⟨S56x2304, .i32⟩
  | .hbm, ⟨35, _⟩ => ⟨S_, .i32⟩
  | .hbm, ⟨36, _⟩ => ⟨S56x2304, .i32⟩
  | .hbm, ⟨37, _⟩ => ⟨S56x2304, .i32⟩
  | .hbm, ⟨38, _⟩ => ⟨S_, .i32⟩
  | .hbm, ⟨39, _⟩ => ⟨S56x2304, .i32⟩
  | .hbm, ⟨40, _⟩ => ⟨S56x2304, .i32⟩
  | .hbm, ⟨41, _⟩ => ⟨S_, .i32⟩
  | .hbm, ⟨42, _⟩ => ⟨S56x2304, .i32⟩
  | .hbm, ⟨43, _⟩ => ⟨S56x2304, .i32⟩
  | .hbm, ⟨44, _⟩ => ⟨S_, .i32⟩
  | .hbm, ⟨45, _⟩ => ⟨S56x2304, .i32⟩
  | .hbm, ⟨46, _⟩ => ⟨S56x2304, .i32⟩
  | .hbm, ⟨47, _⟩ => ⟨S_, .i32⟩
  | .hbm, ⟨48, _⟩ => ⟨S56x2304, .i32⟩
  | .hbm, ⟨49, _⟩ => ⟨S56x2304, .i32⟩
  | .hbm, ⟨50, _⟩ => ⟨S_, .i32⟩
  | .hbm, ⟨51, _⟩ => ⟨S56x2304, .i32⟩
  | .hbm, ⟨52, _⟩ => ⟨S56x2304, .i32⟩
  | .hbm, ⟨53, _⟩ => ⟨S_, .i32⟩
  | .hbm, ⟨54, _⟩ => ⟨S56x2304, .i32⟩
  | .hbm, ⟨55, _⟩ => ⟨S56x2304, .i32⟩
  | .hbm, ⟨56, _⟩ => ⟨S_, .i32⟩
  | .hbm, ⟨57, _⟩ => ⟨S56x2304, .i32⟩
  | .hbm, ⟨58, _⟩ => ⟨S56x2304, .i32⟩
  | .hbm, ⟨59, _⟩ => ⟨S_, .i32⟩
  | .hbm, ⟨60, _⟩ => ⟨S56x2304, .i32⟩
  | .hbm, ⟨61, _⟩ => ⟨S56x2304, .i32⟩
  | .hbm, ⟨62, _⟩ => ⟨S_, .i32⟩
  | .hbm, ⟨63, _⟩ => ⟨S56x2304, .i32⟩
  | .hbm, ⟨64, _⟩ => ⟨S56x2304, .i32⟩
  | .hbm, ⟨65, _⟩ => ⟨S_, .i32⟩
  | .hbm, ⟨66, _⟩ => ⟨S56x2304, .i32⟩
  | .hbm, ⟨67, _⟩ => ⟨S56x2304, .i32⟩
  | .hbm, ⟨68, _⟩ => ⟨S_, .i32⟩
  | .hbm, ⟨69, _⟩ => ⟨S56x2304, .i32⟩
  | .hbm, ⟨70, _⟩ => ⟨S56x2304, .i32⟩
  | .hbm, ⟨71, _⟩ => ⟨S_, .i32⟩
  | .hbm, ⟨72, _⟩ => ⟨S56x2304, .i32⟩
  | .hbm, ⟨73, _⟩ => ⟨S56x2304, .i32⟩
  | .hbm, ⟨74, _⟩ => ⟨S_, .i32⟩
  | .hbm, ⟨75, _⟩ => ⟨S56x2304, .i32⟩
  | .hbm, ⟨76, _⟩ => ⟨S56x2304, .i32⟩
  | .hbm, ⟨77, _⟩ => ⟨S_, .i32⟩
  | .hbm, ⟨78, _⟩ => ⟨S56x2304, .i32⟩
  | .hbm, ⟨79, _⟩ => ⟨S56x2304, .i32⟩
  | .hbm, ⟨80, _⟩ => ⟨S56x1x2304, .i32⟩
  | .hbm, ⟨81, _⟩ => ⟨S56x1x2304, .i32⟩
  | .hbm, ⟨82, _⟩ => ⟨S56x1x2304, .i32⟩
  | .hbm, ⟨83, _⟩ => ⟨S56x1x2304, .i32⟩
  | .hbm, ⟨84, _⟩ => ⟨S56x1x2304, .i32⟩
  | .hbm, ⟨85, _⟩ => ⟨S56x1x2304, .i32⟩
  | .hbm, ⟨86, _⟩ => ⟨S56x1x2304, .i32⟩
  | .hbm, ⟨87, _⟩ => ⟨S56x1x2304, .i32⟩
  | .hbm, ⟨88, _⟩ => ⟨S56x8x2304, .i32⟩
  | .hbm, ⟨89, _⟩ => ⟨S_, .i32⟩
  | .hbm, ⟨90, _⟩ => ⟨S56x8x2304, .i32⟩
  | .hbm, ⟨91, _⟩ => ⟨S56x8x2304, .i32⟩
  | .hbm, ⟨92, _⟩ => ⟨S56x8x2304, .i32⟩
  | .hbm, ⟨93, _⟩ => ⟨S_, .i32⟩
  | .hbm, ⟨94, _⟩ => ⟨S56x8x2304, .i32⟩
  | .hbm, ⟨95, _⟩ => ⟨S56x8x2304, .i32⟩
  | .hbm, ⟨96, _⟩ => ⟨S448x2304, .i32⟩
  | .hbm, ⟨97, _⟩ => ⟨S256x18432, .bf16⟩
  | .local _ .vmem, ⟨0, _⟩ => ⟨S256x7168, .bf16⟩
  | .local _ .vmem, ⟨1, _⟩ => ⟨S7168x128, .i32⟩
  | .local _ .vmem, ⟨2, _⟩ => ⟨S7168x128, .i32⟩
  | .local _ .vmem, ⟨3, _⟩ => ⟨S448x128, .bf16⟩
  | .local _ .vmem, ⟨4, _⟩ => ⟨S448x128, .bf16⟩
  | .local _ .vmem, ⟨5, _⟩ => ⟨S448x128, .i32⟩
  | .local _ .vmem, ⟨6, _⟩ => ⟨S448x128, .i32⟩
  | .local _ .vmem, ⟨7, _⟩ => ⟨S256x1024, .bf16⟩
  | .local _ .vmem, ⟨8, _⟩ => ⟨S256x1024, .bf16⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_c : Ref sig .tc := ⟨.hbm, 32, rfl⟩
abbrev main_v28 : Ref sig .tc := ⟨.hbm, 33, rfl⟩
abbrev main_v29 : Ref sig .tc := ⟨.hbm, 34, rfl⟩
abbrev main_c_0 : Ref sig .tc := ⟨.hbm, 35, rfl⟩
abbrev main_v30 : Ref sig .tc := ⟨.hbm, 36, rfl⟩
abbrev main_v31 : Ref sig .tc := ⟨.hbm, 37, rfl⟩
abbrev main_c_1 : Ref sig .tc := ⟨.hbm, 38, rfl⟩
abbrev main_v32 : Ref sig .tc := ⟨.hbm, 39, rfl⟩
abbrev main_v33 : Ref sig .tc := ⟨.hbm, 40, rfl⟩
abbrev main_c_2 : Ref sig .tc := ⟨.hbm, 41, rfl⟩
abbrev main_v34 : Ref sig .tc := ⟨.hbm, 42, rfl⟩
abbrev main_v35 : Ref sig .tc := ⟨.hbm, 43, rfl⟩
abbrev main_c_3 : Ref sig .tc := ⟨.hbm, 44, rfl⟩
abbrev main_v36 : Ref sig .tc := ⟨.hbm, 45, rfl⟩
abbrev main_v37 : Ref sig .tc := ⟨.hbm, 46, rfl⟩
abbrev main_c_4 : Ref sig .tc := ⟨.hbm, 47, rfl⟩
abbrev main_v38 : Ref sig .tc := ⟨.hbm, 48, rfl⟩
abbrev main_v39 : Ref sig .tc := ⟨.hbm, 49, rfl⟩
abbrev main_c_5 : Ref sig .tc := ⟨.hbm, 50, rfl⟩
abbrev main_v40 : Ref sig .tc := ⟨.hbm, 51, rfl⟩
abbrev main_v41 : Ref sig .tc := ⟨.hbm, 52, rfl⟩
abbrev main_c_6 : Ref sig .tc := ⟨.hbm, 53, rfl⟩
abbrev main_v42 : Ref sig .tc := ⟨.hbm, 54, rfl⟩
abbrev main_v43 : Ref sig .tc := ⟨.hbm, 55, rfl⟩
abbrev main_c_7 : Ref sig .tc := ⟨.hbm, 56, rfl⟩
abbrev main_v44 : Ref sig .tc := ⟨.hbm, 57, rfl⟩
abbrev main_v45 : Ref sig .tc := ⟨.hbm, 58, rfl⟩
abbrev main_c_8 : Ref sig .tc := ⟨.hbm, 59, rfl⟩
abbrev main_v46 : Ref sig .tc := ⟨.hbm, 60, rfl⟩
abbrev main_v47 : Ref sig .tc := ⟨.hbm, 61, rfl⟩
abbrev main_c_9 : Ref sig .tc := ⟨.hbm, 62, rfl⟩
abbrev main_v48 : Ref sig .tc := ⟨.hbm, 63, rfl⟩
abbrev main_v49 : Ref sig .tc := ⟨.hbm, 64, rfl⟩
abbrev main_c_10 : Ref sig .tc := ⟨.hbm, 65, rfl⟩
abbrev main_v50 : Ref sig .tc := ⟨.hbm, 66, rfl⟩
abbrev main_v51 : Ref sig .tc := ⟨.hbm, 67, rfl⟩
abbrev main_c_11 : Ref sig .tc := ⟨.hbm, 68, rfl⟩
abbrev main_v52 : Ref sig .tc := ⟨.hbm, 69, rfl⟩
abbrev main_v53 : Ref sig .tc := ⟨.hbm, 70, rfl⟩
abbrev main_c_12 : Ref sig .tc := ⟨.hbm, 71, rfl⟩
abbrev main_v54 : Ref sig .tc := ⟨.hbm, 72, rfl⟩
abbrev main_v55 : Ref sig .tc := ⟨.hbm, 73, rfl⟩
abbrev main_c_13 : Ref sig .tc := ⟨.hbm, 74, rfl⟩
abbrev main_v56 : Ref sig .tc := ⟨.hbm, 75, rfl⟩
abbrev main_v57 : Ref sig .tc := ⟨.hbm, 76, rfl⟩
abbrev main_c_14 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_c_15 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_16 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![18], ![false]⟩

@[reducible] def k0_t1_loop : Scf.Loop 32 :=
  let c0_i32_r0 : BitVec 32 := 0#32
  let c28_i32_r0 : BitVec 32 := 28#32
  let v0_r0 : BitVec 32 := Scalar.addi c0_i32_r0 c28_i32_r0
  let c1_i32_r0 : BitVec 32 := 1#32
  ⟨c0_i32_r0, v0_r0, c1_i32_r0⟩
def k0_mult1 (k0_t1 : Fin k0_t1_loop.trips) : BitVec 32 :=
  let c0_i32_r0 : BitVec 32 := 0#32
  let c1_i32_r0 : BitVec 32 := 1#32
  let arg6_r0 : BitVec 32 := Scf.iv c0_i32_r0 c1_i32_r0 k0_t1
  let c256_i32_r0 : BitVec 32 := 256#32
  let v2716_r0 : BitVec 32 := Scalar.muli arg6_r0 c256_i32_r0
  v2716_r0
def k0_off1 (k0_t1 : Fin k0_t1_loop.trips) (c0_i32_883_r0 : BitVec 32) (c0_i32_884_r0 : BitVec 32) (c0_i32_885_r0 : BitVec 32) : Fin 2 → Nat :=
  let c0_i32_r0 : BitVec 32 := 0#32
  let c1_i32_r0 : BitVec 32 := 1#32
  let arg6_r0 : BitVec 32 := Scf.iv c0_i32_r0 c1_i32_r0 k0_t1
  let c256_i32_r0 : BitVec 32 := 256#32
  let v2716_r0 : BitVec 32 := Scalar.muli arg6_r0 c256_i32_r0
  let v2717_r0 : BitVec 32 := v2716_r0
  let c0_i32_877_r0 : BitVec 32 := 0#32
  let v2719_r0 : BitVec 1 := Scalar.cmpi .sgt v2717_r0 c0_i32_877_r0
  let v2720_r0 : BitVec 32 := Scalar.extui v2719_r0
  let c0_i32_878_r0 : BitVec 32 := 0#32
  let v2721_r0 : BitVec 1 := Scalar.cmpi .slt v2717_r0 c0_i32_878_r0
  let v2722_r0 : BitVec 32 := Scalar.extui v2721_r0
  let v2723_r0 : BitVec 32 := Scalar.subi v2720_r0 v2722_r0
  let c128_i32_876_r0 : BitVec 32 := 128#32
  let c0_i32_879_r0 : BitVec 32 := 0#32
  let v2724_r0 : BitVec 1 := Scalar.cmpi .sgt c128_i32_876_r0 c0_i32_879_r0
  let v2725_r0 : BitVec 32 := Scalar.extui v2724_r0
  let c0_i32_880_r0 : BitVec 32 := 0#32
  let v2726_r0 : BitVec 1 := Scalar.cmpi .slt c128_i32_876_r0 c0_i32_880_r0
  let v2727_r0 : BitVec 32 := Scalar.extui v2726_r0
  let v2728_r0 : BitVec 32 := Scalar.subi v2725_r0 v2727_r0
  let v2729_r0 : BitVec 1 := Scalar.cmpi .ne v2723_r0 v2728_r0
  let v2730_r0 : BitVec 32 := Scalar.remsi v2717_r0 c128_i32_876_r0
  let c0_i32_881_r0 : BitVec 32 := 0#32
  let v2731_r0 : BitVec 1 := Scalar.cmpi .ne v2730_r0 c0_i32_881_r0
  let v2732_r0 : BitVec 1 := Scalar.andi v2729_r0 v2731_r0
  let v2718_r0 : BitVec 32 := Scalar.divsi v2717_r0 c128_i32_876_r0
  let c1_i32_882_r0 : BitVec 32 := 1#32
  let v2733_r0 : BitVec 32 := Scalar.subi v2718_r0 c1_i32_882_r0
  let v2734_r0 : BitVec 32 := Scalar.select v2732_r0 v2733_r0 v2718_r0
  let v2735_r0 : BitVec 32 := Scalar.addi v2734_r0 c0_i32_883_r0
  let c8_i32_r0 : BitVec 32 := 8#32
  let v2736_r0 : BitVec 32 := Scalar.muli v2735_r0 c8_i32_r0
  let v2737_r0 : BitVec 32 := Scalar.addi v2736_r0 c0_i32_884_r0
  let v2738_r0 : BitVec 32 := Scalar.addi v2737_r0 c0_i32_885_r0
  let v2739_r0 : Index := Scalar.indexCast v2738_r0
  let c0_886_r0 : Index := 0#32
  ![v2739_r0.toNat, 0]
def k0_off2 (k0_t1 : Fin k0_t1_loop.trips) (c0_i32_900_r0 : BitVec 32) (c0_i32_901_r0 : BitVec 32) : Fin 2 → Nat :=
  let c0_i32_r0 : BitVec 32 := 0#32
  let c1_i32_r0 : BitVec 32 := 1#32
  let arg6_r0 : BitVec 32 := Scf.iv c0_i32_r0 c1_i32_r0 k0_t1
  let c256_i32_r0 : BitVec 32 := 256#32
  let v2716_r0 : BitVec 32 := Scalar.muli arg6_r0 c256_i32_r0
  let v2717_r0 : BitVec 32 := v2716_r0
  let v2790_r0 : BitVec 32 := Scalar.addi v2717_r0 c0_i32_900_r0
  let v2791_r0 : BitVec 32 := Scalar.addi v2790_r0 c0_i32_901_r0
  let v2792_r0 : Index := Scalar.indexCast v2791_r0
  let c0_902_r0 : Index := 0#32
  ![v2792_r0.toNat, 0]
def k0_off3 (k0_t1 : Fin k0_t1_loop.trips) : Fin 2 → Nat :=
  let c0_1145_r0 : Index := 0#32
  let c0_i32_r0 : BitVec 32 := 0#32
  let c1_i32_r0 : BitVec 32 := 1#32
  let arg6_r0 : BitVec 32 := Scf.iv c0_i32_r0 c1_i32_r0 k0_t1
  let c256_i32_r0 : BitVec 32 := 256#32
  let v2716_r0 : BitVec 32 := Scalar.muli arg6_r0 c256_i32_r0
  let v2717_r0 : BitVec 32 := v2716_r0
  let v3536_r0 : Index := Scalar.indexCast v2717_r0
  ![0, v3536_r0.toNat]
def k0_off4 (k0_t1 : Fin k0_t1_loop.trips) : Fin 2 → Nat :=
  let c32_1146_r0 : Index := 32#32
  let c0_i32_r0 : BitVec 32 := 0#32
  let c1_i32_r0 : BitVec 32 := 1#32
  let arg6_r0 : BitVec 32 := Scf.iv c0_i32_r0 c1_i32_r0 k0_t1
  let c256_i32_r0 : BitVec 32 := 256#32
  let v2716_r0 : BitVec 32 := Scalar.muli arg6_r0 c256_i32_r0
  let v2717_r0 : BitVec 32 := v2716_r0
  let v3539_r0 : Index := Scalar.indexCast v2717_r0
  ![32, v3539_r0.toNat]
def k0_off5 (k0_t1 : Fin k0_t1_loop.trips) : Fin 2 → Nat :=
  let c64_1147_r0 : Index := 64#32
  let c0_i32_r0 : BitVec 32 := 0#32
  let c1_i32_r0 : BitVec 32 := 1#32
  let arg6_r0 : BitVec 32 := Scf.iv c0_i32_r0 c1_i32_r0 k0_t1
  let c256_i32_r0 : BitVec 32 := 256#32
  let v2716_r0 : BitVec 32 := Scalar.muli arg6_r0 c256_i32_r0
  let v2717_r0 : BitVec 32 := v2716_r0
  let v3542_r0 : Index := Scalar.indexCast v2717_r0
  ![64, v3542_r0.toNat]
def k0_off6 (k0_t1 : Fin k0_t1_loop.trips) : Fin 2 → Nat :=
  let c96_1148_r0 : Index := 96#32
  let c0_i32_r0 : BitVec 32 := 0#32
  let c1_i32_r0 : BitVec 32 := 1#32
  let arg6_r0 : BitVec 32 := Scf.iv c0_i32_r0 c1_i32_r0 k0_t1
  let c256_i32_r0 : BitVec 32 := 256#32
  let v2716_r0 : BitVec 32 := Scalar.muli arg6_r0 c256_i32_r0
  let v2717_r0 : BitVec 32 := v2716_r0
  let v3545_r0 : Index := Scalar.indexCast v2717_r0
  ![96, v3545_r0.toNat]
def k0_off7 (k0_t1 : Fin k0_t1_loop.trips) : Fin 2 → Nat :=
  let c128_1149_r0 : Index := 128#32
  let c0_i32_r0 : BitVec 32 := 0#32
  let c1_i32_r0 : BitVec 32 := 1#32
  let arg6_r0 : BitVec 32 := Scf.iv c0_i32_r0 c1_i32_r0 k0_t1
  let c256_i32_r0 : BitVec 32 := 256#32
  let v2716_r0 : BitVec 32 := Scalar.muli arg6_r0 c256_i32_r0
  let v2717_r0 : BitVec 32 := v2716_r0
  let v3548_r0 : Index := Scalar.indexCast v2717_r0
  ![128, v3548_r0.toNat]
def k0_off8 (k0_t1 : Fin k0_t1_loop.trips) : Fin 2 → Nat :=
  let c160_1150_r0 : Index := 160#32
  let c0_i32_r0 : BitVec 32 := 0#32
  let c1_i32_r0 : BitVec 32 := 1#32
  let arg6_r0 : BitVec 32 := Scf.iv c0_i32_r0 c1_i32_r0 k0_t1
  let c256_i32_r0 : BitVec 32 := 256#32
  let v2716_r0 : BitVec 32 := Scalar.muli arg6_r0 c256_i32_r0
  let v2717_r0 : BitVec 32 := v2716_r0
  let v3551_r0 : Index := Scalar.indexCast v2717_r0
  ![160, v3551_r0.toNat]
def k0_off9 (k0_t1 : Fin k0_t1_loop.trips) : Fin 2 → Nat :=
  let c192_1151_r0 : Index := 192#32
  let c0_i32_r0 : BitVec 32 := 0#32
  let c1_i32_r0 : BitVec 32 := 1#32
  let arg6_r0 : BitVec 32 := Scf.iv c0_i32_r0 c1_i32_r0 k0_t1
  let c256_i32_r0 : BitVec 32 := 256#32
  let v2716_r0 : BitVec 32 := Scalar.muli arg6_r0 c256_i32_r0
  let v2717_r0 : BitVec 32 := v2716_r0
  let v3554_r0 : Index := Scalar.indexCast v2717_r0
  ![192, v3554_r0.toNat]
def k0_off10 (k0_t1 : Fin k0_t1_loop.trips) : Fin 2 → Nat :=
  let c224_1152_r0 : Index := 224#32
  let c0_i32_r0 : BitVec 32 := 0#32
  let c1_i32_r0 : BitVec 32 := 1#32
  let arg6_r0 : BitVec 32 := Scf.iv c0_i32_r0 c1_i32_r0 k0_t1
  let c256_i32_r0 : BitVec 32 := 256#32
  let v2716_r0 : BitVec 32 := Scalar.muli arg6_r0 c256_i32_r0
  let v2717_r0 : BitVec 32 := v2716_r0
  let v3557_r0 : Index := Scalar.indexCast v2717_r0
  ![224, v3557_r0.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S7168x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S448x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S2x128x7168 : Shape := ⟨3, ![2, 128, 7168]⟩
abbrev S7168x2304 : Shape := ⟨2, ![7168, 2304]⟩
abbrev S56x18432 : Shape := ⟨2, ![56, 18432]⟩
abbrev S56x2304 : Shape := ⟨2, ![56, 2304]⟩
abbrev S_ : Shape := ⟨0, ![]⟩
abbrev S56x128x2304 : Shape := ⟨3, ![56, 128, 2304]⟩
abbrev S56x1x2304 : Shape := ⟨3, ![56, 1, 2304]⟩
abbrev S2x128x2304 : Shape := ⟨3, ![2, 128, 2304]⟩
abbrev S2x128x2304x1 : Shape := ⟨4, ![2, 128, 2304, 1]⟩
abbrev S2x128x2304x8 : Shape := ⟨4, ![2, 128, 2304, 8]⟩
abbrev S256x18432 : Shape := ⟨2, ![256, 18432]⟩

abbrev nBuf : Space → Nat
  | .hbm => 207
  | .vmem => 0
  | .smem => 0
  | _ => 0

abbrev hbmTy0_0 (i : Nat) : BufTy := match i % 128 with
  | 0 => ⟨S2x128x7168, .bf16⟩
  | 1 => ⟨S7168x2304, .i32⟩
  | 2 => ⟨S56x18432, .bf16⟩
  | 3 => ⟨S56x2304, .i32⟩
  | 4 => ⟨S_, .i32⟩
  | 5 => ⟨S7168x2304, .i32⟩
  | 6 => ⟨S7168x2304, .i32⟩
  | 7 => ⟨S_, .i32⟩
  | 8 => ⟨S7168x2304, .i32⟩
  | 9 => ⟨S7168x2304, .i32⟩
  | 10 => ⟨S_, .i32⟩
  | 11 => ⟨S56x2304, .i32⟩
  | 12 => ⟨S56x2304, .i32⟩
  | 13 => ⟨S_, .i32⟩
  | 14 => ⟨S56x2304, .i32⟩
  | 15 => ⟨S56x2304, .i32⟩
  | 16 => ⟨S56x2304, .bf16⟩
  | 17 => ⟨S7168x2304, .bf16⟩
  | 18 => ⟨S56x128x2304, .bf16⟩
  | 19 => ⟨S56x2304, .bf16⟩
  | 20 => ⟨S56x1x2304, .bf16⟩
  | 21 => ⟨S56x128x2304, .bf16⟩
  | 22 => ⟨S56x128x2304, .bf16⟩
  | 23 => ⟨S56x1x2304, .bf16⟩
  | 24 => ⟨S56x128x2304, .bf16⟩
  | 25 => ⟨S56x128x2304, .bf16⟩
  | 26 => ⟨S7168x2304, .bf16⟩
  | 27 => ⟨S2x128x2304, .f32⟩
  | 28 => ⟨S_, .i32⟩
  | 29 => ⟨S7168x2304, .i32⟩
  | 30 => ⟨S7168x2304, .i32⟩
  | 31 => ⟨S_, .i32⟩
  | 32 => ⟨S7168x2304, .i32⟩
  | 33 => ⟨S7168x2304, .i32⟩
  | 34 => ⟨S_, .i32⟩
  | 35 => ⟨S56x2304, .i32⟩
  | 36 => ⟨S56x2304, .i32⟩
  | 37 => ⟨S_, .i32⟩
  | 38 => ⟨S56x2304, .i32⟩
  | 39 => ⟨S56x2304, .i32⟩
  | 40 => ⟨S56x2304, .bf16⟩
  | 41 => ⟨S7168x2304, .bf16⟩
  | 42 => ⟨S56x128x2304, .bf16⟩
  | 43 => ⟨S56x2304, .bf16⟩
  | 44 => ⟨S56x1x2304, .bf16⟩
  | 45 => ⟨S56x128x2304, .bf16⟩
  | 46 => ⟨S56x128x2304, .bf16⟩
  | 47 => ⟨S56x1x2304, .bf16⟩
  | 48 => ⟨S56x128x2304, .bf16⟩
  | 49 => ⟨S56x128x2304, .bf16⟩
  | 50 => ⟨S7168x2304, .bf16⟩
  | 51 => ⟨S2x128x2304, .f32⟩
  | 52 => ⟨S_, .i32⟩
  | 53 => ⟨S7168x2304, .i32⟩
  | 54 => ⟨S7168x2304, .i32⟩
  | 55 => ⟨S_, .i32⟩
  | 56 => ⟨S7168x2304, .i32⟩
  | 57 => ⟨S7168x2304, .i32⟩
  | 58 => ⟨S_, .i32⟩
  | 59 => ⟨S56x2304, .i32⟩
  | 60 => ⟨S56x2304, .i32⟩
  | 61 => ⟨S_, .i32⟩
  | 62 => ⟨S56x2304, .i32⟩
  | 63 => ⟨S56x2304, .i32⟩
  | 64 => ⟨S56x2304, .bf16⟩
  | 65 => ⟨S7168x2304, .bf16⟩
  | 66 => ⟨S56x128x2304, .bf16⟩
  | 67 => ⟨S56x2304, .bf16⟩
  | 68 => ⟨S56x1x2304, .bf16⟩
  | 69 => ⟨S56x128x2304, .bf16⟩
  | 70 => ⟨S56x128x2304, .bf16⟩
  | 71 => ⟨S56x1x2304, .bf16⟩
  | 72 => ⟨S56x128x2304, .bf16⟩
  | 73 => ⟨S56x128x2304, .bf16⟩
  | 74 => ⟨S7168x2304, .bf16⟩
  | 75 => ⟨S2x128x2304, .f32⟩
  | 76 => ⟨S_, .i32⟩
  | 77 => ⟨S7168x2304, .i32⟩
  | 78 => ⟨S7168x2304, .i32⟩
  | 79 => ⟨S_, .i32⟩
  | 80 => ⟨S7168x2304, .i32⟩
  | 81 => ⟨S7168x2304, .i32⟩
  | 82 => ⟨S_, .i32⟩
  | 83 => ⟨S56x2304, .i32⟩
  | 84 => ⟨S56x2304, .i32⟩
  | 85 => ⟨S_, .i32⟩
  | 86 => ⟨S56x2304, .i32⟩
  | 87 => ⟨S56x2304, .i32⟩
  | 88 => ⟨S56x2304, .bf16⟩
  | 89 => ⟨S7168x2304, .bf16⟩
  | 90 => ⟨S56x128x2304, .bf16⟩
  | 91 => ⟨S56x2304, .bf16⟩
  | 92 => ⟨S56x1x2304, .bf16⟩
  | 93 => ⟨S56x128x2304, .bf16⟩
  | 94 => ⟨S56x128x2304, .bf16⟩
  | 95 => ⟨S56x1x2304, .bf16⟩
  | 96 => ⟨S56x128x2304, .bf16⟩
  | 97 => ⟨S56x128x2304, .bf16⟩
  | 98 => ⟨S7168x2304, .bf16⟩
  | 99 => ⟨S2x128x2304, .f32⟩
  | 100 => ⟨S_, .i32⟩
  | 101 => ⟨S7168x2304, .i32⟩
  | 102 => ⟨S7168x2304, .i32⟩
  | 103 => ⟨S_, .i32⟩
  | 104 => ⟨S7168x2304, .i32⟩
  | 105 => ⟨S7168x2304, .i32⟩
  | 106 => ⟨S_, .i32⟩
  | 107 => ⟨S56x2304, .i32⟩
  | 108 => ⟨S56x2304, .i32⟩
  | 109 => ⟨S_, .i32⟩
  | 110 => ⟨S56x2304, .i32⟩
  | 111 => ⟨S56x2304, .i32⟩
  | 112 => ⟨S56x2304, .bf16⟩
  | 113 => ⟨S7168x2304, .bf16⟩
  | 114 => ⟨S56x128x2304, .bf16⟩
  | 115 => ⟨S56x2304, .bf16⟩
  | 116 => ⟨S56x1x2304, .bf16⟩
  | 117 => ⟨S56x128x2304, .bf16⟩
  | 118 => ⟨S56x128x2304, .bf16⟩
  | 119 => ⟨S56x1x2304, .bf16⟩
  | 120 => ⟨S56x128x2304, .bf16⟩
  | 121 => ⟨S56x128x2304, .bf16⟩
  | 122 => ⟨S7168x2304, .bf16⟩
  | 123 => ⟨S2x128x2304, .f32⟩
  | 124 => ⟨S_, .i32⟩
  | 125 => ⟨S7168x2304, .i32⟩
  | 126 => ⟨S7168x2304, .i32⟩
  | 127 => ⟨S_, .i32⟩
  | _ => ⟨S2x128x7168, .bf16⟩

abbrev hbmTy0_1 (i : Nat) : BufTy := match i % 128 with
  | 0 => ⟨S7168x2304, .i32⟩
  | 1 => ⟨S7168x2304, .i32⟩
  | 2 => ⟨S_, .i32⟩
  | 3 => ⟨S56x2304, .i32⟩
  | 4 => ⟨S56x2304, .i32⟩
  | 5 => ⟨S_, .i32⟩
  | 6 => ⟨S56x2304, .i32⟩
  | 7 => ⟨S56x2304, .i32⟩
  | 8 => ⟨S56x2304, .bf16⟩
  | 9 => ⟨S7168x2304, .bf16⟩
  | 10 => ⟨S56x128x2304, .bf16⟩
  | 11 => ⟨S56x2304, .bf16⟩
  | 12 => ⟨S56x1x2304, .bf16⟩
  | 13 => ⟨S56x128x2304, .bf16⟩
  | 14 => ⟨S56x128x2304, .bf16⟩
  | 15 => ⟨S56x1x2304, .bf16⟩
  | 16 => ⟨S56x128x2304, .bf16⟩
  | 17 => ⟨S56x128x2304, .bf16⟩
  | 18 => ⟨S7168x2304, .bf16⟩
  | 19 => ⟨S2x128x2304, .f32⟩
  | 20 => ⟨S_, .i32⟩
  | 21 => ⟨S7168x2304, .i32⟩
  | 22 => ⟨S7168x2304, .i32⟩
  | 23 => ⟨S_, .i32⟩
  | 24 => ⟨S7168x2304, .i32⟩
  | 25 => ⟨S7168x2304, .i32⟩
  | 26 => ⟨S_, .i32⟩
  | 27 => ⟨S56x2304, .i32⟩
  | 28 => ⟨S56x2304, .i32⟩
  | 29 => ⟨S_, .i32⟩
  | 30 => ⟨S56x2304, .i32⟩
  | 31 => ⟨S56x2304, .i32⟩
  | 32 => ⟨S56x2304, .bf16⟩
  | 33 => ⟨S7168x2304, .bf16⟩
  | 34 => ⟨S56x128x2304, .bf16⟩
  | 35 => ⟨S56x2304, .bf16⟩
  | 36 => ⟨S56x1x2304, .bf16⟩
  | 37 => ⟨S56x128x2304, .bf16⟩
  | 38 => ⟨S56x128x2304, .bf16⟩
  | 39 => ⟨S56x1x2304, .bf16⟩
  | 40 => ⟨S56x128x2304, .bf16⟩
  | 41 => ⟨S56x128x2304, .bf16⟩
  | 42 => ⟨S7168x2304, .bf16⟩
  | 43 => ⟨S2x128x2304, .f32⟩
  | 44 => ⟨S_, .i32⟩
  | 45 => ⟨S7168x2304, .i32⟩
  | 46 => ⟨S7168x2304, .i32⟩
  | 47 => ⟨S_, .i32⟩
  | 48 => ⟨S7168x2304, .i32⟩
  | 49 => ⟨S7168x2304, .i32⟩
  | 50 => ⟨S_, .i32⟩
  | 51 => ⟨S56x2304, .i32⟩
  | 52 => ⟨S56x2304, .i32⟩
  | 53 => ⟨S_, .i32⟩
  | 54 => ⟨S56x2304, .i32⟩
  | 55 => ⟨S56x2304, .i32⟩
  | 56 => ⟨S56x2304, .bf16⟩
  | 57 => ⟨S7168x2304, .bf16⟩
  | 58 => ⟨S56x128x2304, .bf16⟩
  | 59 => ⟨S56x2304, .bf16⟩
  | 60 => ⟨S56x1x2304, .bf16⟩
  | 61 => ⟨S56x128x2304, .bf16⟩
  | 62 => ⟨S56x128x2304, .bf16⟩
  | 63 => ⟨S56x1x2304, .bf16⟩
  | 64 => ⟨S56x128x2304, .bf16⟩
  | 65 => ⟨S56x128x2304, .bf16⟩
  | 66 => ⟨S7168x2304, .bf16⟩
  | 67 => ⟨S2x128x2304, .f32⟩
  | 68 => ⟨S2x128x2304x1, .f32⟩
  | 69 => ⟨S2x128x2304x1, .f32⟩
  | 70 => ⟨S2x128x2304x1, .f32⟩
  | 71 => ⟨S2x128x2304x1, .f32⟩
  | 72 => ⟨S2x128x2304x1, .f32⟩
  | 73 => ⟨S2x128x2304x1, .f32⟩
  | 74 => ⟨S2x128x2304x1, .f32⟩
  | 75 => ⟨S2x128x2304x1, .f32⟩
  | 76 => ⟨S2x128x2304x8, .f32⟩
  | 77 => ⟨S256x18432, .f32⟩
  | 78 => ⟨S256x18432, .bf16⟩
  | _ => ⟨S2x128x7168, .bf16⟩

abbrev hbmTy (i : Nat) : BufTy := match i / 128 with
  | 0 => hbmTy0_0 i
  | 1 => hbmTy0_1 i
  | _ => ⟨S2x128x7168, .bf16⟩

abbrev bufTy : (tb : Table) → Fin (tcTables nBuf tb) → BufTy
  | .hbm, ⟨i, _⟩ => hbmTy i
  | _, _ => ⟨S2x128x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_7 : Ref sig .tc := ⟨.hbm, 52, rfl⟩
abbrev main_v40 : Ref sig .tc := ⟨.hbm, 53, rfl⟩
abbrev main_v41 : Ref sig .tc := ⟨.hbm, 54, rfl⟩
abbrev main_c_8 : Ref sig .tc := ⟨.hbm, 55, rfl⟩
abbrev main_v42 : Ref sig .tc := ⟨.hbm, 56, rfl⟩
abbrev main_v43 : Ref sig .tc := ⟨.hbm, 57, rfl⟩
abbrev main_c_9 : Ref sig .tc := ⟨.hbm, 58, rfl⟩
abbrev main_v44 : Ref sig .tc := ⟨.hbm, 59, rfl⟩
abbrev main_v45 : Ref sig .tc := ⟨.hbm, 60, rfl⟩
abbrev main_c_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_11 : Ref sig .tc := ⟨.hbm, 76, rfl⟩
abbrev main_v60 : Ref sig .tc := ⟨.hbm, 77, rfl⟩
abbrev main_v61 : Ref sig .tc := ⟨.hbm, 78, rfl⟩
abbrev main_c_12 : Ref sig .tc := ⟨.hbm, 79, rfl⟩
abbrev main_v62 : Ref sig .tc := ⟨.hbm, 80, rfl⟩
abbrev main_v63 : Ref sig .tc := ⟨.hbm, 81, rfl⟩
abbrev main_c_13 : Ref sig .tc := ⟨.hbm, 82, rfl⟩
abbrev main_v64 : Ref sig .tc := ⟨.hbm, 83, rfl⟩
abbrev main_v65 : Ref sig .tc := ⟨.hbm, 84, rfl⟩
abbrev main_c_14 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_c_15 : Ref sig .tc := ⟨.hbm, 100, rfl⟩
abbrev main_v80 : Ref sig .tc := ⟨.hbm, 101, rfl⟩
abbrev main_v81 : Ref sig .tc := ⟨.hbm, 102, rfl⟩
abbrev main_c_16 : Ref sig .tc := ⟨.hbm, 103, rfl⟩
abbrev main_v82 : Ref sig .tc := ⟨.hbm, 104, rfl⟩
abbrev main_v83 : Ref sig .tc := ⟨.hbm, 105, rfl⟩
abbrev main_c_17 : Ref sig .tc := ⟨.hbm, 106, rfl⟩
abbrev main_v84 : Ref sig .tc := ⟨.hbm, 107, rfl⟩
abbrev main_v85 : Ref sig .tc := ⟨.hbm, 108, rfl⟩
abbrev main_c_18 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_c_19 : Ref sig .tc := ⟨.hbm, 124, rfl⟩
abbrev main_v100 : Ref sig .tc := ⟨.hbm, 125, rfl⟩
abbrev main_v101 : Ref sig .tc := ⟨.hbm, 126, rfl⟩
abbrev main_c_20 : Ref sig .tc := ⟨.hbm, 127, rfl⟩
abbrev main_v102 : Ref sig .tc := ⟨.hbm, 128, rfl⟩
abbrev main_v103 : Ref sig .tc := ⟨.hbm, 129, rfl⟩
abbrev main_c_21 : Ref sig .tc := ⟨.hbm, 130, rfl⟩
abbrev main_v104 : Ref sig .tc := ⟨.hbm, 131, rfl⟩
abbrev main_v105 : Ref sig .tc := ⟨.hbm, 132, rfl⟩
abbrev main_c_22 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_c_23 : Ref sig .tc := ⟨.hbm, 148, rfl⟩
abbrev main_v120 : Ref sig .tc := ⟨.hbm, 149, rfl⟩
abbrev main_v121 : Ref sig .tc := ⟨.hbm, 150, rfl⟩
abbrev main_c_24 : Ref sig .tc := ⟨.hbm, 151, rfl⟩
abbrev main_v122 : Ref sig .tc := ⟨.hbm, 152, rfl⟩
abbrev main_v123 : Ref sig .tc := ⟨.hbm, 153, rfl⟩
abbrev main_c_25 : Ref sig .tc := ⟨.hbm, 154, rfl⟩
abbrev main_v124 : Ref sig .tc := ⟨.hbm, 155, rfl⟩
abbrev main_v125 : Ref sig .tc := ⟨.hbm, 156, rfl⟩
abbrev main_c_26 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_c_27 : Ref sig .tc := ⟨.hbm, 172, rfl⟩
abbrev main_v140 : Ref sig .tc := ⟨.hbm, 173, rfl⟩
abbrev main_v141 : Ref sig .tc := ⟨.hbm, 174, rfl⟩
abbrev main_c_28 : Ref sig .tc := ⟨.hbm, 175, rfl⟩
abbrev main_v142 : Ref sig .tc := ⟨.hbm, 176, rfl⟩
abbrev main_v143 : Ref sig .tc := ⟨.hbm, 177, rfl⟩
abbrev main_c_29 : Ref sig .tc := ⟨.hbm, 178, rfl⟩
abbrev main_v144 : Ref sig .tc := ⟨.hbm, 179, rfl⟩
abbrev main_v145 : Ref sig .tc := ⟨.hbm, 180, rfl⟩
abbrev main_c_30 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩

abbrev nD : Nat := 1
abbrev τ : Topo := Topo.v7x

variable {F : FTy → Type} [FloatOps F]
-- ==== Proof.Unit.lean ====
/-
  The matrix unit through the kernel's loop, for any arithmetic. One trip of the loop pushes four weight tiles (for
  each half of the fields, one tile per unit) and multiplies eight pieces of 32 rows by them; the product of piece
  `p` for half `h` goes to address `64 h + 8 p` of each unit. This file says which state a trip leaves: the staging
  registers are empty again, the rows below 512 and no others hold something, and every accumulator holds what it held
  before with the trip's product deposited.
-/
module

public import Idealize.ShloMosaic.Lib.Mxu.Lemmas
public import Idealize.ShloMosaic.Lib.Mxu.Walk

@[expose] public section

set_option maxRecDepth 16384

noncomputable section

namespace Cert.Awq

open Idealize.ShloMosaic Idealize.ShloMosaic.Mxu

variable {F : FTy → Type} [FloatOps F]

/-- A weight tile as pushed. -/
abbrev Tile (F : FTy → Type) : Type := FVec F (STile 256) .bf16
/-- A piece of 32 rows of the activations, one trip's 256 columns of it. -/
abbrev Piece (F : FTy → Type) : Type := FVec F (STile 32) .bf16

/-- Piece `p` of half `h` has its accumulator at address `64 h + 8 p`. -/
theorem fits_addr (h : Fin 2) (p : Fin 8) : Fits (64 * h.val + 8 * p.val) 32 := by
  unfold Fits; omega

/-- Every piece but the first: multiplied by the tiles that the units hold. -/
def piece (h : Fin 2) (t0 t1 : Staged F) (s : Mxu F) (p : Fin 8) (x : Piece F) : Mxu F :=
  (s.accBy 0 t0 (64 * h.val + 8 * p.val) x (fits_addr h p)).accBy 1 t1 (64 * h.val + 8 * p.val) x (fits_addr h p)

/-- The two pushes of a half. -/
def push2 (h : Fin 2) (s : Mxu F) (v0 v1 : Tile F) : Mxu F := (s.pushed 0 h false v0).pushed 1 h false v1

/-- The first piece: multiplied while the pushed tiles are loaded. -/
def first (h : Fin 2) (s : Mxu F) (x : Piece F) : Mxu F :=
  (s.accLhs 0 h (64 * h.val + 8 * (0 : Fin 8).val) x (fits_addr h 0)).accLhs 1 h (64 * h.val + 8 * (0 : Fin 8).val) x (fits_addr h 0)

/-- The half of a trip: push the tiles `v0`, `v1`, then the eight pieces. -/
def half (h : Fin 2) (s : Mxu F) (v0 v1 : Tile F) (x : Fin 8 → Piece F) : Mxu F :=
  let s1 := first h (push2 h s v0 v1) (x 0)
  let t0 := (push2 h s v0 v1).staged 0 h
  let t1 := ((push2 h s v0 v1).accLhs 0 h (64 * h.val + 8 * (0 : Fin 8).val) (x 0) (fits_addr h 0)).staged 1 h
  piece h t0 t1 (piece h t0 t1 (piece h t0 t1 (piece h t0 t1 (piece h t0 t1 (piece h t0 t1 (piece h t0 t1 s1
    1 (x 1)) 2 (x 2)) 3 (x 3)) 4 (x 4)) 5 (x 5)) 6 (x 6)) 7 (x 7)

/-- One trip: both halves. -/
def trip (s : Mxu F) (v : Fin 2 → Fin 2 → Tile F) (x : Fin 8 → Piece F) : Mxu F :=
  half 1 (half 0 s (v 0 0) (v 0 1) x) (v 1 0) (v 1 1) x

/-- The unit's state before trip `k`, trip `k` pushing the tiles `v k` and multiplying the pieces `x k`. -/
def stateTo (v : ℕ → Fin 2 → Fin 2 → Tile F) (x : ℕ → Fin 8 → Piece F) : ℕ → Mxu F
  | 0 => Mxu.init
  | k + 1 => trip (stateTo v x k) (v k) (x k)

/-- What one trip adds to an accumulator. -/
def term (v : Tile F) (x : Piece F) : FVec F (STile 32) .f32 := FloatOps.mxuPass (DotDims.plain 32 256 256) x v

/-- What an accumulator holds before trip `k`: the passes of the trips before it, added in order. -/
def accTo (v : ℕ → Tile F) (x : ℕ → Piece F) : ℕ → FVec F (STile 32) .f32
  | 0 => constant _ .f32 0
  | k + 1 => fun i => deposit (decide (0 < k)) (accTo v x k i) (term (v k) (x k) i)

/-- All staging registers are empty. -/
def NoReg (s : Mxu F) : Prop := ∀ q r, s.reg q r = none

theorem NoReg.half {s : Mxu F} (hs : NoReg s) (h : Fin 2) (v0 v1 : Tile F) (x : Fin 8 → Piece F) : NoReg (half h s v0 v1 x) := by
  intro q r
  simp only [Awq.half, piece, first, push2, reg_accBy]
  by_cases h1 : q = 1 ∧ r = h
  · obtain ⟨rfl, rfl⟩ := h1; exact reg_accLhs _ _ _ _ _ _
  rw [reg_accLhs_ne _ _ _ _ _ _ _ _ h1]
  by_cases h0 : q = 0 ∧ r = h
  · obtain ⟨rfl, rfl⟩ := h0; exact reg_accLhs _ _ _ _ _ _
  rw [reg_accLhs_ne _ _ _ _ _ _ _ _ h0, reg_pushed_ne _ _ _ _ _ _ _ h1, reg_pushed_ne _ _ _ _ _ _ _ h0]
  exact hs q r

theorem NoReg.trip {s : Mxu F} (hs : NoReg s) (v : Fin 2 → Fin 2 → Tile F) (x : Fin 8 → Piece F) : NoReg (trip s v x) :=
  (hs.half _ _ _ _).half _ _ _ _

/-- Between trips every staging register is empty. -/
theorem noReg_stateTo (v : ℕ → Fin 2 → Fin 2 → Tile F) (x : ℕ → Fin 8 → Piece F) : ∀ k, NoReg (stateTo v x k)
  | 0 => fun _ _ => rfl
  | k + 1 => (noReg_stateTo v x k).trip _ _

/-- After a half, its 256 rows hold something and the others are as before. -/
theorem live_half (h : Fin 2) (s : Mxu F) (v0 v1 : Tile F) (x : Fin 8 → Piece F) (q : Fin 2) (R : Fin 1024) :
    (half h s v0 v1 x).live q R = if 256 * h.val ≤ R.val ∧ R.val < 256 * h.val + 256 then true else s.live q R := by
  simp only [half, piece, first, push2, live_accBy, live_accLhs, live_pushed]
  have hq : q = 0 ∨ q = 1 := by omega
  rcases hq with rfl | rfl <;> simp only [fin2_10, fin2_01, Fin.isValue, true_and, false_and, if_false, Fin.val_zero, Fin.val_one, Fin.reduceFinMk, Fin.val_ofNat] <;>
  · repeat' split
    all_goals first | rfl | (exfalso; omega) | skip

/-- Before trip `k` the rows below 512 hold something, once a trip has run, and no others ever do. -/
theorem live_stateTo (v : ℕ → Fin 2 → Fin 2 → Tile F) (x : ℕ → Fin 8 → Piece F) (k : ℕ) (q : Fin 2) (R : Fin 1024) :
    (stateTo v x k).live q R = decide (0 < k ∧ R.val < 512) := by
  induction k with
  | zero => rfl
  | succ k ih =>
    rw [stateTo, trip, live_half, live_half, ih]
    simp only [Fin.val_zero, Fin.val_one]
    split
    · symm; simp only [decide_eq_true_eq]; omega
    · split
      · symm; simp only [decide_eq_true_eq]; omega
      · simp only [decide_eq_decide]; omega

/-- A half leaves the other half's accumulators alone. -/
theorem read_half_ne (h h' : Fin 2) (hne : h ≠ h') (s : Mxu F) (v0 v1 : Tile F) (x : Fin 8 → Piece F) (q : Fin 2) (p : Fin 8) :
    (half h s v0 v1 x).read q (64 * h'.val + 8 * p.val) (fits_addr h' p) = s.read q (64 * h'.val + 8 * p.val) (fits_addr h' p) := by
  have key : ∀ p' : Fin 8, 4 * (64 * h'.val + 8 * p.val) + 32 ≤ 4 * (64 * h.val + 8 * p'.val) ∨ 4 * (64 * h.val + 8 * p'.val) + 32 ≤ 4 * (64 * h'.val + 8 * p.val) := by
    intro p'; omega
  simp only [half, piece, first, push2]
  repeat rw [read_accBy_ne _ _ _ _ _ _ _ _ _ (Or.inr (by have := key 0; have := key 1; have := key 2; have := key 3; have := key 4; have := key 5; have := key 6; have := key 7; omega))]
  rw [read_accLhs_ne _ _ _ _ _ _ _ _ _ (Or.inr (key 0)), read_accLhs_ne _ _ _ _ _ _ _ _ _ (Or.inr (key 0)), read_pushed, read_pushed]

/-- The tile of unit `q`. -/
def tileOf (q : Fin 2) (t0 t1 : Staged F) : Staged F := if q = 0 then t0 else t1

/-- A piece's accumulators before and after its multiplication: the product deposited, row by row. -/
theorem read_piece (h : Fin 2) (t0 t1 : Staged F) (s : Mxu F) (p : Fin 8) (x : Piece F) (q : Fin 2) (b : Bool)
    (hl : ∀ r : Fin 32, s.live q (row (fits_addr h p) r) = b) :
    (piece h t0 t1 s p x).read q (64 * h.val + 8 * p.val) (fits_addr h p)
      = fun i => deposit b (s.read q (64 * h.val + 8 * p.val) (fits_addr h p) i) ((tileOf q t0 t1).pass x i) := by
  have hq : q = 0 ∨ q = 1 := by omega
  rcases hq with rfl | rfl
  · rw [piece, read_accBy_ne _ _ _ _ _ _ _ _ _ (.inl (by decide)), read_accBy]
    funext i
    exact congrArg (fun b => deposit b _ _) (hl (i 0))
  · rw [piece, read_accBy, read_accBy_ne _ _ _ _ _ _ _ _ _ (.inl (by decide))]
    funext i
    refine congrArg (fun b => deposit b _ _) ?_
    rw [live_accBy, if_neg (by rintro ⟨h, -⟩; exact absurd h (by decide))]; exact hl (i 0)

/-- Another piece's accumulators are as before. -/
theorem read_piece_ne (h : Fin 2) (t0 t1 : Staged F) (s : Mxu F) (p p' : Fin 8) (x : Piece F) (q : Fin 2) (hne : p' ≠ p) :
    (piece h t0 t1 s p' x).read q (64 * h.val + 8 * p.val) (fits_addr h p) = s.read q (64 * h.val + 8 * p.val) (fits_addr h p) := by
  have : p'.val ≠ p.val := fun e => hne (Fin.ext e)
  rw [piece, read_accBy_ne _ _ _ _ _ _ _ _ _ (.inr (by omega)), read_accBy_ne _ _ _ _ _ _ _ _ _ (.inr (by omega))]

/-- And so is which of its rows hold something. -/
theorem live_piece_ne (h : Fin 2) (t0 t1 : Staged F) (s : Mxu F) (p p' : Fin 8) (x : Piece F) (q : Fin 2) (hne : p' ≠ p) (r : Fin 32) :
    (piece h t0 t1 s p' x).live q (row (fits_addr h p) r) = s.live q (row (fits_addr h p) r) := by
  have : p'.val ≠ p.val := fun e => hne (Fin.ext e)
  rw [piece, live_accBy, live_accBy, if_neg, if_neg] <;> dsimp only [row] <;> omega

/-- The first piece is a multiplication by the tiles just pushed. -/
theorem read_first (h : Fin 2) (s : Mxu F) (x : Piece F) (q : Fin 2) (p : Fin 8) :
    (first h s x).read q (64 * h.val + 8 * p.val) (fits_addr h p)
      = (piece h (s.staged 0 h) ((s.accLhs 0 h (64 * h.val + 8 * (0 : Fin 8).val) x (fits_addr h 0)).staged 1 h) s 0 x).read q
          (64 * h.val + 8 * p.val) (fits_addr h p) := rfl

theorem live_first (h : Fin 2) (s : Mxu F) (x : Piece F) (q : Fin 2) (R : Fin 1024) :
    (first h s x).live q R
      = (piece h (s.staged 0 h) ((s.accLhs 0 h (64 * h.val + 8 * (0 : Fin 8).val) x (fits_addr h 0)).staged 1 h) s 0 x).live q R := rfl

/-- The tile that unit 0 multiplies by is the one pushed to it; -/
theorem staged0 (h : Fin 2) (s : Mxu F) (hs : NoReg s) (v0 v1 : Tile F) : (push2 h s v0 v1).staged 0 h = ⟨.bf16, false, v0⟩ := by
  rw [staged_eq, push2, reg_pushed_ne _ _ _ _ _ _ _ (by rintro ⟨h, -⟩; exact absurd h (by decide)), reg_pushed_of_none _ _ _ _ _ (hs 0 h)]; rfl

/-- and so for unit 1. -/
theorem staged1 (h : Fin 2) (s : Mxu F) (hs : NoReg s) (v0 v1 : Tile F) (x : Piece F) :
    ((push2 h s v0 v1).accLhs 0 h (64 * h.val + 8 * (0 : Fin 8).val) x (fits_addr h 0)).staged 1 h = ⟨.bf16, false, v1⟩ := by
  rw [staged_eq, reg_accLhs_ne _ _ _ _ _ _ _ _ (by rintro ⟨h, -⟩; exact absurd h (by decide)), push2, reg_pushed_of_none]
  · rfl
  · rw [reg_pushed_ne _ _ _ _ _ _ _ (by rintro ⟨h, -⟩; exact absurd h (by decide))]; exact hs 1 h

/-- The tile of unit `q` of two. -/
def sel2 (q : Fin 2) (v0 v1 : Tile F) : Tile F := if q = 0 then v0 else v1

theorem pass_tileOf (q : Fin 2) (v0 v1 : Tile F) (x : Piece F) :
    (tileOf q (⟨.bf16, false, v0⟩ : Staged F) ⟨.bf16, false, v1⟩).pass x = term (sel2 q v0 v1) x := by
  have hq : q = 0 ∨ q = 1 := by omega
  rcases hq with rfl | rfl <;> rfl

/-- After a half each of its accumulators holds what it held before with the half's product deposited. -/
theorem read_half (h : Fin 2) (s : Mxu F) (hs : NoReg s) (v0 v1 : Tile F) (x : Fin 8 → Piece F) (q : Fin 2) (p : Fin 8)
    (b : Bool) (hl : ∀ r : Fin 32, s.live q (row (fits_addr h p) r) = b) :
    (half h s v0 v1 x).read q (64 * h.val + 8 * p.val) (fits_addr h p)
      = fun i => deposit b (s.read q (64 * h.val + 8 * p.val) (fits_addr h p) i) (term (sel2 q v0 v1) (x p) i) := by
  have hp : ∀ q' R, (push2 h s v0 v1).live q' R = s.live q' R := fun _ _ => by simp only [push2, live_pushed]
  have hr : ∀ p', (push2 h s v0 v1).read q (64 * h.val + 8 * p'.val) (fits_addr h p') = s.read q (64 * h.val + 8 * p'.val) (fits_addr h p') :=
    fun p' => by simp only [push2, read_pushed]
  unfold half
  dsimp only
  rw [staged0 h s hs, staged1 h s hs]
  have hp8 : p = 0 ∨ p = 1 ∨ p = 2 ∨ p = 3 ∨ p = 4 ∨ p = 5 ∨ p = 6 ∨ p = 7 := by omega
  rcases hp8 with rfl | rfl | rfl | rfl | rfl | rfl | rfl | rfl <;>
  · repeat rw [read_piece_ne _ _ _ _ _ _ _ _ (by decide)]
    first
    | (rw [read_first, staged0 h s hs, staged1 h s hs, read_piece _ _ _ _ _ _ _ b (fun r => (hp _ _).trans (hl r)), pass_tileOf, hr])
    | (rw [read_piece _ _ _ _ _ _ _ b (fun r => by
         repeat rw [live_piece_ne _ _ _ _ _ _ _ _ (by decide)]
         rw [live_first, live_piece_ne _ _ _ _ _ _ _ _ (by decide), hp, hl r]), pass_tileOf]
       funext i
       repeat rw [read_piece_ne _ _ _ _ _ _ _ _ (by decide)]
       rw [read_first, read_piece_ne _ _ _ _ _ _ _ _ (by decide), hr])

/-- What an accumulator holds before trip `k`: unit `q`, half `h`, piece `p`. -/
theorem read_stateTo (v : ℕ → Fin 2 → Fin 2 → Tile F) (x : ℕ → Fin 8 → Piece F) (k : ℕ) (q h : Fin 2) (p : Fin 8) :
    (stateTo v x k).read q (64 * h.val + 8 * p.val) (fits_addr h p) = accTo (fun n => v n h q) (fun n => x n p) k := by
  induction k with
  | zero => rfl
  | succ k ih =>
    have hreg := noReg_stateTo v x k
    have hsel : ∀ h' : Fin 2, sel2 q (v k h' 0) (v k h' 1) = v k h' q := by
      intro h'; have hq : q = 0 ∨ q = 1 := by omega
      rcases hq with rfl | rfl <;> rfl
    have hh : h = 0 ∨ h = 1 := by omega
    have hrow : ∀ r : Fin 32, (row (fits_addr h p) r).val < 512 := fun r => by dsimp only [row]; omega
    rw [stateTo, trip]
    rcases hh with rfl | rfl
    · rw [read_half_ne 1 0 (by decide), read_half _ _ hreg _ _ _ _ _ (decide (0 < k)) (fun r => by
        rw [live_stateTo]; simp only [hrow, and_true]), ih, hsel]
      rfl
    · rw [read_half _ _ (hreg.half _ _ _ _) _ _ _ _ _ (decide (0 < k)) (fun r => by
        rw [live_half, if_neg (by dsimp only [row]; simp only [Fin.val_zero, Fin.val_one]; omega), live_stateTo]
        simp only [hrow, and_true]), read_half_ne 0 1 (by decide), ih, hsel]
      rfl

end Cert.Awq
-- ==== Proof.P.Tile.lean ====
/-
  What one trip of the kernel's loop feeds the matrix units, at any arithmetic, in the program's own operations: the
  dequantised weight tile of each half and unit, and the eight pieces of the activations. The blocks of the kernel's four
  operands are `x0` (activations, 256 × 7168), `x1` (packed weights, 7168 × 128), `x2` (scales, one row per group and
  field) and `x3` (zero points, likewise).
-/
module

public import proofs.«01_k».proof.Proof.Gen.Kernel.Frame
public import proofs.«01_k».proof.Proof.Unit

@[expose] public section

set_option maxRecDepth 16384

noncomputable section

namespace Cert.Awq.K

open Cert.Kernel Cert.Kernel.Gen Idealize.ShloMosaic Idealize.ShloMosaic.TcCoe

variable {F : FTy → Type} [BitOps F]

/-- A row of scales, on all 16 sublanes. -/
def scaleRow (r : Vec F S1x128 .bf16) : FVec F S16x128 .bf16 :=
  broadcastTo S16x128 (shapeCast S1x128 (shapeCast S1x128 r shapeCasts_S1x128_S1x128) shapeCasts_S1x128_S1x128) broadcasts_S1x128_S16x128

/-- A row of zero points: each word holds the bits of `128 + z` twice, read as a pair of bf16. -/
def zeroRow (r : Vec F S1x128 .i32) : FVec F S16x128 .bf16 :=
  bitcastToFloat .bf16 (bitcast S16x128 16 (broadcastTo S8x128
    (shapeCast S1x128 (shapeCast S1x128 (r : IVec S1x128 32) shapeCasts_S1x128_S1x128) shapeCasts_S1x128_S1x128) broadcasts_S1x128_S8x128 : IVec S8x128 32)
    bitcasts_S8x128_w32_S16x128_w16)

/-- Half `h` of 16 rows of packed weights: 16 bits of each word, two rows to a word. -/
def words (h : Fin 2) (w : Vec F S16x128 .i32) : IVec S8x128 32 :=
  match h with
  | 0 => bitcast S8x128 32 (trunci 16 (w : IVec S16x128 32) natLt_16_32) bitcasts_S16x128_w16_S8x128_w32
  | 1 => bitcast S8x128 32 (trunci 16 (shrui (w : IVec S16x128 32) (broadcast S16x128 16#32)) natLt_16_32) bitcasts_S16x128_w16_S8x128_w32

/-- Field `f` of a half moved to the low bits. -/
def shifted (f : Fin 4) (b : IVec S8x128 32) : IVec S8x128 32 :=
  match f with
  | 0 => b
  | 1 => shrui b (broadcast S8x128 4#32)
  | 2 => shrui b (broadcast S8x128 8#32)
  | 3 => shrui b (broadcast S8x128 12#32)

/-- 16 rows of one field dequantised: `((128 + nibble) − (128 + z)) · s`. -/
def deq (f : Fin 4) (b : IVec S8x128 32) (z s : FVec F S16x128 .bf16) : FVec F S16x128 .bf16 :=
  mulf (subf (bitcastToFloat .bf16 (bitcast S16x128 16
    (ori (andi (shifted f b) (broadcast S8x128 983055#32)) (broadcast S8x128 1124090624#32)) bitcasts_S8x128_w32_S16x128_w16)) z) s

variable (x0 : Vec F S256x7168 .bf16) (x1 : Vec F S7168x128 .i32) (x2 : Vec F S448x128 .bf16) (x3 : Vec F S448x128 .i32)
  (k : Fin k0_t1_loop.trips)

/-- The scales of group `g` of trip `k`, field `4 h + f`. -/
def sAt (g h : Fin 2) (f : Fin 4) : Vec F S1x128 .bf16 :=
  View.ld x2 (Rect.unit (s := S448x128) (k0_off1 k (BitVec.ofNat 32 g.val) (BitVec.ofNat 32 (4 * h.val)) (BitVec.ofNat 32 f.val)) S1x128.size (k0_off1_inb k g h f))

/-- The zero points of group `g` of trip `k`, field `4 h + f`. -/
def zAt (g h : Fin 2) (f : Fin 4) : Vec F S1x128 .i32 :=
  View.ld x3 (Rect.unit (s := S448x128) (k0_off1 k (BitVec.ofNat 32 g.val) (BitVec.ofNat 32 (4 * h.val)) (BitVec.ofNat 32 f.val)) S1x128.size (k0_off1_inb k g h f))

/-- Rows `16 r …` of group `g` of trip `k` of the packed weights. -/
def wAt (g : Fin 2) (r : Fin 8) : Vec F S16x128 .i32 :=
  View.ld x1 (Rect.unit (s := S7168x128) (k0_off2 k (BitVec.ofNat 32 (128 * g.val)) (BitVec.ofNat 32 (16 * r.val))) S16x128.size (k0_off2_inb k g r))

/-- 16 rows of field `4 h + f` dequantised. -/
def deqAt (h : Fin 2) (f : Fin 4) (g : Fin 2) (r : Fin 8) : FVec F S16x128 .bf16 :=
  deq f (words h (wAt x1 k g r)) (zeroRow (zAt x3 k g h f)) (scaleRow (sAt x2 k g h f))

/-- 16 rows of the tile of half `h` and unit `m`: its two fields side by side. -/
def rows (h m : Fin 2) (g : Fin 2) (r : Fin 8) : FVec F S16x256 .bf16 :=
  match m with
  | 0 => concatenate S16x256 1 [⟨S16x128, deqAt x1 x2 x3 k h 0 g r⟩, ⟨S16x128, deqAt x1 x2 x3 k h 1 g r⟩] concatenates_S16x128_S16x128_S16x256_d1
  | 1 => concatenate S16x256 1 [⟨S16x128, deqAt x1 x2 x3 k h 2 g r⟩, ⟨S16x128, deqAt x1 x2 x3 k h 3 g r⟩] concatenates_S16x128_S16x128_S16x256_d1

/-- The tile that trip `k` pushes for half `h` into unit `m`: two groups of 128 rows. -/
def tile (h m : Fin 2) : FVec F S256x256 .bf16 :=
  concatenate S256x256 0 [⟨S16x256, rows x1 x2 x3 k h m 0 0⟩, ⟨S16x256, rows x1 x2 x3 k h m 0 1⟩, ⟨S16x256, rows x1 x2 x3 k h m 0 2⟩, ⟨S16x256, rows x1 x2 x3 k h m 0 3⟩,
    ⟨S16x256, rows x1 x2 x3 k h m 0 4⟩, ⟨S16x256, rows x1 x2 x3 k h m 0 5⟩, ⟨S16x256, rows x1 x2 x3 k h m 0 6⟩, ⟨S16x256, rows x1 x2 x3 k h m 0 7⟩,
    ⟨S16x256, rows x1 x2 x3 k h m 1 0⟩, ⟨S16x256, rows x1 x2 x3 k h m 1 1⟩, ⟨S16x256, rows x1 x2 x3 k h m 1 2⟩, ⟨S16x256, rows x1 x2 x3 k h m 1 3⟩,
    ⟨S16x256, rows x1 x2 x3 k h m 1 4⟩, ⟨S16x256, rows x1 x2 x3 k h m 1 5⟩, ⟨S16x256, rows x1 x2 x3 k h m 1 6⟩, ⟨S16x256, rows x1 x2 x3 k h m 1 7⟩] concatenates_S16x256_S16x256_S16x256_S16x256_S16x256_S16x256_S16x256_S16x256_S16x256_S16x256_S16x256_S16x256_S16x256_S16x256_S16x256_S16x256_S256x256_d0

/-- The eight pieces of 32 rows of trip `k`'s 256 columns of the activations. -/
def xAt : Fin 8 → FVec F S32x256 .bf16
  | 0 => shapeCast S32x256 (View.ld x0 (Rect.unit (s := S256x7168) (k0_off3 k) S32x256.size (k0_off3_inb k))) shapeCasts_S32x256_S32x256
  | 1 => shapeCast S32x256 (View.ld x0 (Rect.unit (s := S256x7168) (k0_off4 k) S32x256.size (k0_off4_inb k))) shapeCasts_S32x256_S32x256
  | 2 => shapeCast S32x256 (View.ld x0 (Rect.unit (s := S256x7168) (k0_off5 k) S32x256.size (k0_off5_inb k))) shapeCasts_S32x256_S32x256
  | 3 => shapeCast S32x256 (View.ld x0 (Rect.unit (s := S256x7168) (k0_off6 k) S32x256.size (k0_off6_inb k))) shapeCasts_S32x256_S32x256
  | 4 => shapeCast S32x256 (View.ld x0 (Rect.unit (s := S256x7168) (k0_off7 k) S32x256.size (k0_off7_inb k))) shapeCasts_S32x256_S32x256
  | 5 => shapeCast S32x256 (View.ld x0 (Rect.unit (s := S256x7168) (k0_off8 k) S32x256.size (k0_off8_inb k))) shapeCasts_S32x256_S32x256
  | 6 => shapeCast S32x256 (View.ld x0 (Rect.unit (s := S256x7168) (k0_off9 k) S32x256.size (k0_off9_inb k))) shapeCasts_S32x256_S32x256
  | 7 => shapeCast S32x256 (View.ld x0 (Rect.unit (s := S256x7168) (k0_off10 k) S32x256.size (k0_off10_inb k))) shapeCasts_S32x256_S32x256

/-- Trip number `n` of the loop. -/
def tripNo (n : ℕ) : Fin k0_t1_loop.trips := ⟨n % k0_t1_loop.trips, Nat.mod_lt _ (by decide)⟩

theorem tripNo_val (k : Fin k0_t1_loop.trips) : tripNo k.val = k := Fin.ext (Nat.mod_eq_of_lt k.isLt)

/-- The units' state before trip `n`. -/
def state (n : ℕ) : Mxu F := stateTo (fun n => tile x1 x2 x3 (tripNo n)) (fun n => xAt x0 (tripNo n)) n

/-- A trip takes the state to the next. -/
theorem state_succ : trip (state x0 x1 x2 x3 k.val) (tile x1 x2 x3 k) (xAt x0 k) = state x0 x1 x2 x3 (k.val + 1) := by
  unfold state; rw [stateTo, tripNo_val]

end Cert.Awq.K

end
-- ==== Proof.Pops.lean ====
/-
  The matrix units emptied: after the loop the kernel reads and pops the 32 accumulators, piece by piece, and within a
  piece half by half, unit by unit. What each pop reads is what the state before all pops holds there, and after the 32
  pops the units are drained.
-/
module

public import proofs.«01_k».proof.Proof.Unit

@[expose] public section

noncomputable section

namespace Cert.Awq

open Idealize.ShloMosaic Mxu

variable {F : FTy → Type} [FloatOps F]

/-- The unit, the half and the piece of pop `j`. -/
def popUnit (j : ℕ) : Fin 2 := ⟨j % 2, Nat.mod_lt _ (by decide)⟩
def popHalf (j : ℕ) : Fin 2 := ⟨j / 2 % 2, Nat.mod_lt _ (by decide)⟩
def popPiece (j : ℕ) : Fin 8 := ⟨j / 4 % 8, Nat.mod_lt _ (by decide)⟩

/-- The state after the first `n` pops. -/
def popN (s : Mxu F) : ℕ → Mxu F
  | 0 => s
  | n + 1 => (popN s n).pop (popUnit n) (64 * (popHalf n).val + 8 * (popPiece n).val) 32 (fits_addr (popHalf n) (popPiece n))

/-- What pop `j` reads. -/
def popRead (s : Mxu F) (j : ℕ) : FVec F ⟨2, ![32, 256]⟩ .f32 :=
  (popN s j).read (popUnit j) (64 * (popHalf j).val + 8 * (popPiece j).val) (fits_addr (popHalf j) (popPiece j))

theorem pops_apart : ∀ n j : Fin 32, n < j → popUnit n.val ≠ popUnit j.val ∨
    4 * (64 * (popHalf j.val).val + 8 * (popPiece j.val).val) + 32 ≤ 4 * (64 * (popHalf n.val).val + 8 * (popPiece n.val).val) ∨
    4 * (64 * (popHalf n.val).val + 8 * (popPiece n.val).val) + 32 ≤ 4 * (64 * (popHalf j.val).val + 8 * (popPiece j.val).val) := by
  decide +kernel

/-- The pops before pop `j` leave its accumulator alone. -/
theorem read_popN (s : Mxu F) (j : ℕ) (hj : j < 32) : ∀ n, n ≤ j →
    (popN s n).read (popUnit j) (64 * (popHalf j).val + 8 * (popPiece j).val) (fits_addr (popHalf j) (popPiece j))
      = s.read (popUnit j) (64 * (popHalf j).val + 8 * (popPiece j).val) (fits_addr (popHalf j) (popPiece j))
  | 0, _ => rfl
  | n + 1, hn => by
    rw [popN, read_pop_ne, read_popN s j hj n (by omega)]
    rcases pops_apart ⟨n, by omega⟩ ⟨j, hj⟩ (by exact hn) with h | h
    · exact .inl h.symm
    · exact .inr h

/-- What a pop reads is what the state before all pops holds there. -/
theorem popRead_eq (s : Mxu F) (h m : Fin 2) (p : Fin 8) :
    popRead s (4 * p.val + 2 * h.val + m.val) = s.read m (64 * h.val + 8 * p.val) (fits_addr h p) := by
  have hu : popUnit (4 * p.val + 2 * h.val + m.val) = m := Fin.ext (by simp only [popUnit]; omega)
  have hh : popHalf (4 * p.val + 2 * h.val + m.val) = h := Fin.ext (by simp only [popHalf]; omega)
  have hp : popPiece (4 * p.val + 2 * h.val + m.val) = p := Fin.ext (by simp only [popPiece]; omega)
  have e := read_popN s (4 * p.val + 2 * h.val + m.val) (by omega) _ le_rfl
  refine Eq.trans (show popRead s _ = _ from e) ?_
  have key : ∀ (m' h' : Fin 2) (p' : Fin 8), m' = m → h' = h → p' = p →
      s.read m' (64 * h'.val + 8 * p'.val) (fits_addr h' p') = s.read m (64 * h.val + 8 * p.val) (fits_addr h p) := by
    rintro _ _ _ rfl rfl rfl; rfl
  exact key _ _ _ hu hh hp

theorem reg_popN (s : Mxu F) : ∀ n, (popN s n).reg = s.reg
  | 0 => rfl
  | n + 1 => by rw [popN, reg_pop, reg_popN s n]

theorem live_popN_of (s : Mxu F) (q : Fin 2) (R : Fin 1024) (h : s.live q R = false) : ∀ n, (popN s n).live q R = false
  | 0 => h
  | n + 1 => by rw [popN, live_pop]; split; · rfl
                exact live_popN_of s q R h n

theorem live_popN (s : Mxu F) (q : Fin 2) (R : Fin 1024) (j : ℕ)
    (h : q = popUnit j ∧ 4 * (64 * (popHalf j).val + 8 * (popPiece j).val) ≤ R.val ∧ R.val < 4 * (64 * (popHalf j).val + 8 * (popPiece j).val) + 32) :
    ∀ n, j < n → (popN s n).live q R = false
  | n + 1, hn => by
    rw [popN, live_pop]
    split
    · rfl
    · next hc =>
      refine live_popN s q R j h n ?_
      rcases Nat.lt_succ_iff_lt_or_eq.mp hn with h' | rfl
      · exact h'
      · exact absurd h hc

/-- After the 32 pops the units are drained: no register staged, no accumulator holding anything. -/
theorem drained_popN (v : ℕ → Fin 2 → Fin 2 → Tile F) (x : ℕ → Fin 8 → Piece F) (k : ℕ) : (popN (stateTo v x k) 32).Drained := by
  refine ⟨fun q r => by rw [reg_popN, noReg_stateTo]; rfl, fun q R => ?_⟩
  by_cases hR : R.val < 512
  · refine live_popN _ q R (4 * (R.val / 32 % 8) + 2 * (R.val / 256) + q.val) ?_ 32 (by omega)
    have hb : R.val / 256 = 0 ∨ R.val / 256 = 1 := by omega
    have h1 : (4 * (R.val / 32 % 8) + 2 * (R.val / 256) + q.val) / 4 = R.val / 32 % 8 := by omega
    have h2 : (4 * (R.val / 32 % 8) + 2 * (R.val / 256) + q.val) / 2 = 2 * (R.val / 32 % 8) + R.val / 256 := by omega
    refine ⟨Fin.ext ?_, ?_, ?_⟩ <;> simp only [popUnit, popHalf, popPiece, h1, h2] <;>
      rcases hb with hb | hb <;> simp only [hb] <;> omega
  · exact live_popN_of _ q R (by rw [live_stateTo]; simp [hR]) 32

end Cert.Awq

end
-- ==== Proof.P.Out.lean ====
/-
  What the kernel stores, at any arithmetic, in the program's own operations: the eight columns of words that a piece's
  four accumulators give, the network of rotates and selects that interleaves them, and the 128 stored pieces.
-/
module

public import proofs.«01_k».proof.Proof.P.Tile
public import proofs.«01_k».proof.Proof.Pops

@[expose] public section

set_option maxRecDepth 16384

noncomputable section

namespace Cert.Awq.K

open Cert.Kernel Cert.Kernel.Gen Idealize.ShloMosaic Idealize.ShloMosaic.TcCoe

variable {F : FTy → Type} [BitOps F]

/-- The lanes whose bit `b` is clear. -/
def clear (b : BitVec 32) : IVec S8x128 1 :=
  cmpi .eq (andi (shrsi (iota .tc S8x128 32 [1] iota_S8x128_d1_w32) (broadcast S8x128 b)) (broadcast S8x128 1#32)) (broadcast S8x128 0#32)

section Network
variable {α : Type}

/-- The first of a pair after a stage: `a` where the bit is clear, and elsewhere `e` moved up by `d` lanes. -/
def lower (b d : BitVec 32) (a e : S8x128.Idx → α) : S8x128.Idx → α := select (clear b) a (dynamicRotate 1 d none e rotates_S8x128_d1)
/-- The second: `a` moved down where the bit is clear (by `d' = 128 - d` lanes round), and elsewhere `e`. -/
def upper (b d' : BitVec 32) (a e : S8x128.Idx → α) : S8x128.Idx → α := select (clear b) (dynamicRotate 1 d' none a rotates_S8x128_d1) e

/-- The three stages of the interleaving network. -/
def stage0 (v : Fin 8 → S8x128.Idx → α) : Fin 8 → S8x128.Idx → α
  | 0 => lower 4#32 16#32 (v 0) (v 1) | 1 => upper 4#32 112#32 (v 0) (v 1)
  | 2 => lower 4#32 16#32 (v 2) (v 3) | 3 => upper 4#32 112#32 (v 2) (v 3)
  | 4 => lower 4#32 16#32 (v 4) (v 5) | 5 => upper 4#32 112#32 (v 4) (v 5)
  | 6 => lower 4#32 16#32 (v 6) (v 7) | 7 => upper 4#32 112#32 (v 6) (v 7)
def stage1 (v : Fin 8 → S8x128.Idx → α) : Fin 8 → S8x128.Idx → α
  | 0 => lower 5#32 32#32 (v 0) (v 2) | 2 => upper 5#32 96#32 (v 0) (v 2)
  | 1 => lower 5#32 32#32 (v 1) (v 3) | 3 => upper 5#32 96#32 (v 1) (v 3)
  | 4 => lower 5#32 32#32 (v 4) (v 6) | 6 => upper 5#32 96#32 (v 4) (v 6)
  | 5 => lower 5#32 32#32 (v 5) (v 7) | 7 => upper 5#32 96#32 (v 5) (v 7)
def stage2 (v : Fin 8 → S8x128.Idx → α) : Fin 8 → S8x128.Idx → α
  | 0 => lower 6#32 64#32 (v 0) (v 4) | 4 => upper 6#32 64#32 (v 0) (v 4)
  | 1 => lower 6#32 64#32 (v 1) (v 5) | 5 => upper 6#32 64#32 (v 1) (v 5)
  | 2 => lower 6#32 64#32 (v 2) (v 6) | 6 => upper 6#32 64#32 (v 2) (v 6)
  | 3 => lower 6#32 64#32 (v 3) (v 7) | 7 => upper 6#32 64#32 (v 3) (v 7)

/-- The network. -/
def net (v : Fin 8 → S8x128.Idx → α) : Fin 8 → S8x128.Idx → α := stage2 (stage1 (stage0 v))

end Network

/-- The lane that output lane `l` takes: `16 (l mod 8) + l / 8`. -/
def lanes : IVec S16x128 32 :=
  addi (muli (andi (iota .tc S16x128 32 [1] iota_S16x128_d1_w32) (broadcast S16x128 7#32)) (broadcast S16x128 16#32))
    (shrsi (iota .tc S16x128 32 [1] iota_S16x128_d1_w32) (broadcast S16x128 3#32))

/-- The same as the gather reads it: wrapped if negative (it is not), and through a unit axis. -/
def lanesRead : IVec S16x128 32 :=
  shapeCast S16x128 (shapeCast S16x128x1 (select (cmpi .slt lanes (broadcast S16x128 0#32)) (addi lanes (broadcast S16x128 128#32)) lanes)
    shapeCasts_S16x128_S16x128x1) shapeCasts_S16x128x1_S16x128

/-- One half of a unit's popped rows, rounded. -/
def left (y : FVec F S32x256 .f32) : FVec F S32x128 .bf16 := extractStridedSlice S32x128 ![0, 0] (truncf .bf16 y bitsLt_bf16_f32) slices_S32x256_o0_0_S32x128
def right (y : FVec F S32x256 .f32) : FVec F S32x128 .bf16 := extractStridedSlice S32x128 ![0, 128] (truncf .bf16 y bitsLt_bf16_f32) slices_S32x256_o0_128_S32x128

/-- Column residue `r` of a piece, from its four accumulators `y half unit`: the field whose residue is `r`. -/
def col (y : Fin 2 → Fin 2 → FVec F S32x256 .f32) : Fin 8 → FVec F S32x128 .bf16
  | 0 => left (y 0 0) | 1 => left (y 1 0) | 2 => right (y 0 0) | 3 => right (y 1 0)
  | 4 => left (y 0 1) | 5 => left (y 1 1) | 6 => right (y 0 1) | 7 => right (y 1 1)

/-- Sixteen rows of a piece's column. -/
def band (t : Fin 2) (c : FVec F S32x128 .bf16) : FVec F S16x128 .bf16 :=
  match t with
  | 0 => extractStridedSlice S16x128 ![0, 0] c slices_S32x128_o0_0_S16x128
  | 1 => extractStridedSlice S16x128 ![16, 0] c slices_S32x128_o16_0_S16x128

/-- The piece stored for band `t` and output chunk `q`. -/
def stored (y : Fin 2 → Fin 2 → FVec F S32x256 .f32) (t : Fin 2) (q : Fin 8) : FVec F S16x128 .bf16 :=
  truncf .bf16 (dynamicGather 1 (extf .f32 (bitcastToFloat .bf16 (bitcast S16x128 16
    (net (fun r => bitcast S8x128 32 (bitcastToInt (band t (col y r))) bitcasts_S16x128_w16_S8x128_w32) q)
    bitcasts_S8x128_w32_S16x128_w16)) bitsLt_bf16_f32) lanesRead) bitsLt_bf16_f32

/-- Where it is stored. -/
theorem stored_inb (p : Fin 8) (t : Fin 2) (q : Fin 8) (a : Fin S256x1024.rank) :
    (![32 * p.val + 16 * t.val, 128 * q.val] : Fin 2 → ℕ) a + S16x128.size a ≤ S256x1024.size a := by
  fin_cases a
  · show 32 * p.val + 16 * t.val + 16 ≤ 256; omega
  · show 128 * q.val + 128 ≤ 1024; omega

def storedAt (p : Fin 8) (t : Fin 2) (q : Fin 8) : Rect S256x1024 :=
  Rect.unit (s := S256x1024) ![32 * p.val + 16 * t.val, 128 * q.val] S16x128.size (stored_inb p t q)

/-- The accumulators of piece `p`, as they are popped from state `s`. -/
def popped (s : Mxu F) (p : Fin 8) : Fin 2 → Fin 2 → FVec F S32x256 .f32 := fun h m => popRead s (4 * p.val + 2 * h.val + m.val)

/-- The eight stores of a band, last first, before the earlier ones. -/
def bandStores (s : Mxu F) (p : Fin 8) (t : Fin 2) (rest : List (View.Piece (Elt F) S256x1024 .bf16)) : List (View.Piece (Elt F) S256x1024 .bf16) :=
  ⟨storedAt p t 7, stored (popped s p) t 7⟩ :: ⟨storedAt p t 6, stored (popped s p) t 6⟩ :: ⟨storedAt p t 5, stored (popped s p) t 5⟩ ::
  ⟨storedAt p t 4, stored (popped s p) t 4⟩ :: ⟨storedAt p t 3, stored (popped s p) t 3⟩ :: ⟨storedAt p t 2, stored (popped s p) t 2⟩ ::
  ⟨storedAt p t 1, stored (popped s p) t 1⟩ :: ⟨storedAt p t 0, stored (popped s p) t 0⟩ :: rest

/-- All 128 stores, last first. -/
def stores (s : Mxu F) : List (View.Piece (Elt F) S256x1024 .bf16) :=
  bandStores s 7 1 <| bandStores s 7 0 <| bandStores s 6 1 <| bandStores s 6 0 <| bandStores s 5 1 <| bandStores s 5 0 <|
  bandStores s 4 1 <| bandStores s 4 0 <| bandStores s 3 1 <| bandStores s 3 0 <| bandStores s 2 1 <| bandStores s 2 0 <|
  bandStores s 1 1 <| bandStores s 1 0 <| bandStores s 0 1 <| bandStores s 0 0 []

end Cert.Awq.K

end
-- ==== Proof.P.Trip.lean ====
/-
  One trip of the kernel's loop, at any arithmetic: the run of its 39 printed parts.
-/
module

public import proofs.«01_k».proof.Proof.P.Tile
public import proofs.«01_k».proof.Proof.Gen.Kernel.Loops
public import proofs.«01_k».proof.Proof.Gen.Kernel.Skeleton
public import Idealize.ShloMosaic.Adequacy
public import Idealize.ShloMosaic.Init

@[expose] public section

set_option maxRecDepth 65536

noncomputable section

namespace Cert.Awq.K

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- Before trip `k` the units' state is the one the closed form says, and the four operands are held. -/
def inv (c : Dev nD)
    (arg1 : Memref sig .tc .vmem S256x7168 .bf16) (arg2 : Memref sig .tc .vmem S7168x128 .i32) (arg3 : Memref sig .tc .vmem S448x128 .bf16) (arg4 : Memref sig .tc .vmem S448x128 .i32)
    (f0 : arg1.view.ref.ty.Contents (Elt F)) (f1 : arg2.view.ref.ty.Contents (Elt F)) (f2 : arg3.view.ref.ty.Contents (Elt F)) (f3 : arg4.view.ref.ty.Contents (Elt F))
    (k : ℕ) (s : Mxu F) : sProp 𝕄 :=
  iprop(⌜s = state (arg1.view.read (Elt F) f0) (arg2.view.read (Elt F) f1) (arg3.view.read (Elt F) f2) (arg4.view.read (Elt F) f3) k⌝ ∗ (arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3))

set_option maxHeartbeats 8000000 in
/-- One trip: from the closed form's state to the next one. -/
theorem run_trip (c : Dev nD) (i : grid0.Coords)
    (arg1 : Memref sig .tc .vmem S256x7168 .bf16) (harg1 : arg1.IsWhole) (arg2 : Memref sig .tc .vmem S7168x128 .i32) (harg2 : arg2.IsWhole)
    (arg3 : Memref sig .tc .vmem S448x128 .bf16) (harg3 : arg3.IsWhole) (arg4 : Memref sig .tc .vmem S448x128 .i32) (harg4 : arg4.IsWhole)
    (arg5 : Memref sig .tc .vmem S256x1024 .bf16) (harg5 : arg5.IsWhole)
    (f0 : arg1.view.ref.ty.Contents (Elt F)) (f1 : arg2.view.ref.ty.Contents (Elt F)) (f2 : arg3.view.ref.ty.Contents (Elt F)) (f3 : arg4.view.ref.ty.Contents (Elt F))
    (k : Fin k0_t1_loop.trips) (s : Mxu F) :
    inv c arg1 arg2 arg3 arg4 f0 f1 f2 f3 k.val s
      ⊢ wp frame (wpE (defs₀ (F := F)) Variants.none (c : Thread nD τ) none) Set.univ
          (k0_t1_body i arg1 harg1 arg2 harg2 arg3 harg3 arg4 harg4 arg5 harg5 k s)
          (inv c arg1 arg2 arg3 arg4 f0 f1 f2 f3 (k.val + 1)) := by
  unfold inv
  iintro ⟨%hst, H0, H1, H2, H3⟩
  have hs : NoReg s := hst ▸ noReg_stateTo _ _ _
  have hp : s.PushOk 0 0 false := Mxu.pushOk_of_none _ _ _ _ (hs 0 0)
  have hp1 : s.PushOk 1 0 false := Mxu.pushOk_of_none _ _ _ _ (hs 1 0)
  have hp2 : s.PushOk 0 1 false := Mxu.pushOk_of_none _ _ _ _ (hs 0 1)
  have hp3 : s.PushOk 1 1 false := Mxu.pushOk_of_none _ _ _ _ (hs 1 1)
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
  sl_exec (disch := first
    | (show Mxu.PushOk _ 1 0 _; exact Mxu.pushOk_pushed hp1 _ _ _)
    | (show Mxu.PushOk _ 0 1 _; exact Mxu.pushOk_accBy (Mxu.pushOk_accBy (Mxu.pushOk_accBy (Mxu.pushOk_accBy (Mxu.pushOk_accBy (Mxu.pushOk_accBy (Mxu.pushOk_accBy (Mxu.pushOk_accBy (Mxu.pushOk_accBy (Mxu.pushOk_accBy (Mxu.pushOk_accBy (Mxu.pushOk_accBy (Mxu.pushOk_accBy (Mxu.pushOk_accBy (Mxu.pushOk_accLhs (Mxu.pushOk_accLhs (Mxu.pushOk_pushed (Mxu.pushOk_pushed hp2 _ _ _) _ _ _) _ _ _ _ _) _ _ _ _ _) _ _ _ _ _) _ _ _ _ _) _ _ _ _ _) _ _ _ _ _) _ _ _ _ _) _ _ _ _ _) _ _ _ _ _) _ _ _ _ _) _ _ _ _ _) _ _ _ _ _) _ _ _ _ _) _ _ _ _ _) _ _ _ _ _) _ _ _ _ _)
    | (show Mxu.PushOk _ 1 1 _; exact Mxu.pushOk_pushed (Mxu.pushOk_accBy (Mxu.pushOk_accBy (Mxu.pushOk_accBy (Mxu.pushOk_accBy (Mxu.pushOk_accBy (Mxu.pushOk_accBy (Mxu.pushOk_accBy (Mxu.pushOk_accBy (Mxu.pushOk_accBy (Mxu.pushOk_accBy (Mxu.pushOk_accBy (Mxu.pushOk_accBy (Mxu.pushOk_accBy (Mxu.pushOk_accBy (Mxu.pushOk_accLhs (Mxu.pushOk_accLhs (Mxu.pushOk_pushed (Mxu.pushOk_pushed hp3 _ _ _) _ _ _) _ _ _ _ _) _ _ _ _ _) _ _ _ _ _) _ _ _ _ _) _ _ _ _ _) _ _ _ _ _) _ _ _ _ _) _ _ _ _ _) _ _ _ _ _) _ _ _ _ _) _ _ _ _ _) _ _ _ _ _) _ _ _ _ _) _ _ _ _ _) _ _ _ _ _) _ _ _ _ _) _ _ _))
  sl_step
  isplitr
  · ipureintro
    rw [← state_succ, ← hst]
    rfl
  isplitl [H0]; · iexact H0
  isplitl [H1]; · iexact H1
  isplitl [H2]; · iexact H2
  iexact H3

end Cert.Awq.K

end
-- ==== Proof.P.Body.lean ====
/-
  The kernel's body at one grid point, at any arithmetic.
-/
module

public import proofs.«01_k».proof.Proof.P.Out
public import proofs.«01_k».proof.Proof.P.Trip
public import proofs.«01_k».proof.Proof.Gen.Kernel.Loops
public import proofs.«01_k».proof.Proof.Gen.Kernel.Skeleton
public import Idealize.ShloMosaic.Adequacy
public import Idealize.ShloMosaic.Init

@[expose] public section

set_option maxRecDepth 65536

noncomputable section

namespace Cert.Awq.K

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- The kernel's result block from its four operand blocks: the 128 stores, over the units' state after the loop. -/
def out0_4 (x0 : Vec F S256x7168 .bf16) (x1 : Vec F S7168x128 .i32) (x2 : Vec F S448x128 .bf16) (x3 : Vec F S448x128 .i32) : Vec F S256x1024 .bf16 :=
  View.canon (stores (state x0 x1 x2 x3 k0_t1_loop.trips))

/-- The 128 stores tile the block, so they cover it. -/
theorem cover_stores (s : Mxu F) (y : S256x1024.Idx) : ∃ p ∈ stores s, y ∈ p.1.set :=
  View.cover_of_tiled (stores s) S16x128.size (by rfl) y

set_option maxHeartbeats 16000000 in
/-- The whole body at one grid point: the operands as they were, the result block `out0_4` of them. -/
theorem sound_kernel (c : Dev nD) (i : grid0.Coords)
    (arg1 : Memref sig .tc .vmem S256x7168 .bf16) (harg1 : arg1.IsWhole) (arg2 : Memref sig .tc .vmem S7168x128 .i32) (harg2 : arg2.IsWhole)
    (arg3 : Memref sig .tc .vmem S448x128 .bf16) (harg3 : arg3.IsWhole) (arg4 : Memref sig .tc .vmem S448x128 .i32) (harg4 : arg4.IsWhole)
    (arg5 : Memref sig .tc .vmem S256x1024 .bf16) (harg5 : arg5.IsWhole)
    (x0 : Vec F S256x7168 .bf16) (x1 : Vec F S7168x128 .i32) (x2 : Vec F S448x128 .bf16) (x3 : Vec F S448x128 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗
        (∃ d, owns (c : Thread nD τ) arg5 fullShare d) ∗
        (iprop(owns (c : Thread nD τ) arg1 fullShare x0 ∗ owns (c : Thread nD τ) arg2 fullShare x1 ∗ owns (c : Thread nD τ) arg3 fullShare x2 ∗ owns (c : Thread nD τ) arg4 fullShare x3 ∗
          owns (c : Thread nD τ) arg5 fullShare (out0_4 x0 x1 x2 x3)) -∗ K ⟨⟩))
      ⊢ wp frame (wpE (defs₀ (F := F)) Variants.none (c : Thread nD τ) none) Set.univ
          (cc0_awq_int4_linear i arg1 harg1 arg2 harg2 arg3 harg3 arg4 harg4 arg5 harg5) K := by
  simp only [cc0_awq_int4_linear_eq_skeleton]
  unfold cc0_awq_int4_linear_skel
  simp only [k0_part103_eq_skeleton]
  unfold k0_part103_skel
  simp only [k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_for (inv c arg1 arg2 arg3 arg4 f0 f1 f2 f3) $$ [H0 H1 H2 H3]
  case region => intro k s; exact run_trip c i arg1 harg1 arg2 harg2 arg3 harg3 arg4 harg4 arg5 harg5 f0 f1 f2 f3 k s
  · unfold inv; isplitr; · ipureintro; rfl
    isplitl [H0]; · iexact H0
    isplitl [H1]; · iexact H1
    isplitl [H2]; · iexact H2
    iexact H3
  iintro %s HI
  unfold inv; icases HI with ⟨%hs, H0, H1, H2, H3⟩
  subst hs
  have hd : (popN (state (arg1.view.read (Elt F) f0) (arg2.view.read (Elt F) f1) (arg3.view.read (Elt F) f2) (arg4.view.read (Elt F) f3) k0_t1_loop.trips) 32).Drained :=
    drained_popN _ _ _
  sl_exec (disch := (show Mxu.Drained _; exact hd))
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  iexists _; isplitr
  swap
  · iexact H4
  ipureintro
  refine Eq.trans (congrArg (fun L => arg5.view.read (Elt F) (arg5.view.writes (Elt F) f4 L)) (?_ : _ = stores (state (arg1.view.read (Elt F) f0) (arg2.view.read (Elt F) f1) (arg3.view.read (Elt F) f2) (arg4.view.read (Elt F) f3) k0_t1_loop.trips))) (View.read_writes_eq_canon _ _ _ (cover_stores _))
  rfl

end Cert.Awq.K

end
-- ==== Proof.P.Run.lean ====
/-
  The launch of the kernel over its grid of 18 column blocks, at any arithmetic: the pipeline's proof data, its body
  obligation, the frame, and the result array block by block.
-/
module

public import proofs.«01_k».proof.Proof.P.Body
public import Idealize.ShloMosaic.Lib.Claim
public import Idealize.ShloMosaic.Lib.Pipeline.Value

@[expose] public section

set_option maxRecDepth 16384

noncomputable section

namespace Cert.Awq.K

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- The launch: every execution ends with the arrays at what the pipeline's proof data give and every other buffer as it was, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-- What point `t` writes back to output window 4's array: the body's result for that window (`out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- The index map sends distinct grid points to distinct block indices (decided over the 18 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- Block `t` of the final array, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v75) = (dats m 0 c).arrAt 4 cfg0.N :=
  (h c).1 4

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run named — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v75) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      kept_main_arg0 m r h c,
      kept_main_arg1 m r h c,
      kept_main_arg2 m r h c,
      kept_main_arg3 m r h c⟩)
    (run_main m ρ)

end Cert.Awq.K

end
-- ==== Proof.PI.Tile.lean ====
/-
  What one trip of the kernel's loop feeds the matrix units, at any arithmetic, in the program's own operations: the
  dequantised weight tile of each half and unit, and the eight pieces of the activations. The blocks of the kernel's four
  operands are `x0` (activations, 256 × 7168), `x1` (packed weights, 7168 × 128), `x2` (scales, one row per group and
  field) and `x3` (zero points, likewise).
-/
module

public import proofs.«01_k».proof.Proof.Gen.KernelIdeal.Frame
public import proofs.«01_k».proof.Proof.Unit

@[expose] public section

set_option maxRecDepth 16384

noncomputable section

namespace Cert.Awq.KI

open Cert.KernelIdeal Cert.KernelIdeal.Gen Idealize.ShloMosaic Idealize.ShloMosaic.TcCoe

variable {F : FTy → Type} [FloatOps F]

/-- A row of scales, on all 16 sublanes. -/
def scaleRow (r : Vec F S1x128 .bf16) : FVec F S16x128 .bf16 :=
  broadcastTo S16x128 (shapeCast S1x128 (shapeCast S1x128 r shapeCasts_S1x128_S1x128) shapeCasts_S1x128_S1x128) broadcasts_S1x128_S16x128

/-- A row of zero points: each word holds the bits of `128 + z` twice, read as a pair of bf16. -/
def zeroRow (r : Vec F S1x128 .i32) : FVec F S16x128 .bf16 :=
  bitcastToFloat .bf16 (bitcast S16x128 16 (broadcastTo S8x128
    (shapeCast S1x128 (shapeCast S1x128 (r : IVec S1x128 32) shapeCasts_S1x128_S1x128) shapeCasts_S1x128_S1x128) broadcasts_S1x128_S8x128 : IVec S8x128 32)
    bitcasts_S8x128_w32_S16x128_w16)

/-- Half `h` of 16 rows of packed weights: 16 bits of each word, two rows to a word. -/
def words (h : Fin 2) (w : Vec F S16x128 .i32) : IVec S8x128 32 :=
  match h with
  | 0 => bitcast S8x128 32 (trunci 16 (w : IVec S16x128 32) natLt_16_32) bitcasts_S16x128_w16_S8x128_w32
  | 1 => bitcast S8x128 32 (trunci 16 (shrui (w : IVec S16x128 32) (broadcast S16x128 16#32)) natLt_16_32) bitcasts_S16x128_w16_S8x128_w32

/-- Field `f` of a half moved to the low bits. -/
def shifted (f : Fin 4) (b : IVec S8x128 32) : IVec S8x128 32 :=
  match f with
  | 0 => b
  | 1 => shrui b (broadcast S8x128 4#32)
  | 2 => shrui b (broadcast S8x128 8#32)
  | 3 => shrui b (broadcast S8x128 12#32)

/-- 16 rows of one field dequantised: `((128 + nibble) − (128 + z)) · s`. -/
def deq (f : Fin 4) (b : IVec S8x128 32) (z s : FVec F S16x128 .bf16) : FVec F S16x128 .bf16 :=
  mulf (subf (bitcastToFloat .bf16 (bitcast S16x128 16
    (ori (andi (shifted f b) (broadcast S8x128 983055#32)) (broadcast S8x128 1124090624#32)) bitcasts_S8x128_w32_S16x128_w16)) z) s

variable (x0 : Vec F S256x7168 .bf16) (x1 : Vec F S7168x128 .i32) (x2 : Vec F S448x128 .bf16) (x3 : Vec F S448x128 .i32)
  (k : Fin k0_t1_loop.trips)

/-- The scales of group `g` of trip `k`, field `4 h + f`. -/
def sAt (g h : Fin 2) (f : Fin 4) : Vec F S1x128 .bf16 :=
  View.ld x2 (Rect.unit (s := S448x128) (k0_off1 k (BitVec.ofNat 32 g.val) (BitVec.ofNat 32 (4 * h.val)) (BitVec.ofNat 32 f.val)) S1x128.size (k0_off1_inb k g h f))

/-- The zero points of group `g` of trip `k`, field `4 h + f`. -/
def zAt (g h : Fin 2) (f : Fin 4) : Vec F S1x128 .i32 :=
  View.ld x3 (Rect.unit (s := S448x128) (k0_off1 k (BitVec.ofNat 32 g.val) (BitVec.ofNat 32 (4 * h.val)) (BitVec.ofNat 32 f.val)) S1x128.size (k0_off1_inb k g h f))

/-- Rows `16 r …` of group `g` of trip `k` of the packed weights. -/
def wAt (g : Fin 2) (r : Fin 8) : Vec F S16x128 .i32 :=
  View.ld x1 (Rect.unit (s := S7168x128) (k0_off2 k (BitVec.ofNat 32 (128 * g.val)) (BitVec.ofNat 32 (16 * r.val))) S16x128.size (k0_off2_inb k g r))

/-- 16 rows of field `4 h + f` dequantised. -/
def deqAt (h : Fin 2) (f : Fin 4) (g : Fin 2) (r : Fin 8) : FVec F S16x128 .bf16 :=
  deq f (words h (wAt x1 k g r)) (zeroRow (zAt x3 k g h f)) (scaleRow (sAt x2 k g h f))

/-- 16 rows of the tile of half `h` and unit `m`: its two fields side by side. -/
def rows (h m : Fin 2) (g : Fin 2) (r : Fin 8) : FVec F S16x256 .bf16 :=
  match m with
  | 0 => concatenate S16x256 1 [⟨S16x128, deqAt x1 x2 x3 k h 0 g r⟩, ⟨S16x128, deqAt x1 x2 x3 k h 1 g r⟩] concatenates_S16x128_S16x128_S16x256_d1
  | 1 => concatenate S16x256 1 [⟨S16x128, deqAt x1 x2 x3 k h 2 g r⟩, ⟨S16x128, deqAt x1 x2 x3 k h 3 g r⟩] concatenates_S16x128_S16x128_S16x256_d1

/-- The tile that trip `k` pushes for half `h` into unit `m`: two groups of 128 rows. -/
def tile (h m : Fin 2) : FVec F S256x256 .bf16 :=
  concatenate S256x256 0 [⟨S16x256, rows x1 x2 x3 k h m 0 0⟩, ⟨S16x256, rows x1 x2 x3 k h m 0 1⟩, ⟨S16x256, rows x1 x2 x3 k h m 0 2⟩, ⟨S16x256, rows x1 x2 x3 k h m 0 3⟩,
    ⟨S16x256, rows x1 x2 x3 k h m 0 4⟩, ⟨S16x256, rows x1 x2 x3 k h m 0 5⟩, ⟨S16x256, rows x1 x2 x3 k h m 0 6⟩, ⟨S16x256, rows x1 x2 x3 k h m 0 7⟩,
    ⟨S16x256, rows x1 x2 x3 k h m 1 0⟩, ⟨S16x256, rows x1 x2 x3 k h m 1 1⟩, ⟨S16x256, rows x1 x2 x3 k h m 1 2⟩, ⟨S16x256, rows x1 x2 x3 k h m 1 3⟩,
    ⟨S16x256, rows x1 x2 x3 k h m 1 4⟩, ⟨S16x256, rows x1 x2 x3 k h m 1 5⟩, ⟨S16x256, rows x1 x2 x3 k h m 1 6⟩, ⟨S16x256, rows x1 x2 x3 k h m 1 7⟩] concatenates_S16x256_S16x256_S16x256_S16x256_S16x256_S16x256_S16x256_S16x256_S16x256_S16x256_S16x256_S16x256_S16x256_S16x256_S16x256_S16x256_S256x256_d0

/-- The eight pieces of 32 rows of trip `k`'s 256 columns of the activations. -/
def xAt : Fin 8 → FVec F S32x256 .bf16
  | 0 => shapeCast S32x256 (View.ld x0 (Rect.unit (s := S256x7168) (k0_off3 k) S32x256.size (k0_off3_inb k))) shapeCasts_S32x256_S32x256
  | 1 => shapeCast S32x256 (View.ld x0 (Rect.unit (s := S256x7168) (k0_off4 k) S32x256.size (k0_off4_inb k))) shapeCasts_S32x256_S32x256
  | 2 => shapeCast S32x256 (View.ld x0 (Rect.unit (s := S256x7168) (k0_off5 k) S32x256.size (k0_off5_inb k))) shapeCasts_S32x256_S32x256
  | 3 => shapeCast S32x256 (View.ld x0 (Rect.unit (s := S256x7168) (k0_off6 k) S32x256.size (k0_off6_inb k))) shapeCasts_S32x256_S32x256
  | 4 => shapeCast S32x256 (View.ld x0 (Rect.unit (s := S256x7168) (k0_off7 k) S32x256.size (k0_off7_inb k))) shapeCasts_S32x256_S32x256
  | 5 => shapeCast S32x256 (View.ld x0 (Rect.unit (s := S256x7168) (k0_off8 k) S32x256.size (k0_off8_inb k))) shapeCasts_S32x256_S32x256
  | 6 => shapeCast S32x256 (View.ld x0 (Rect.unit (s := S256x7168) (k0_off9 k) S32x256.size (k0_off9_inb k))) shapeCasts_S32x256_S32x256
  | 7 => shapeCast S32x256 (View.ld x0 (Rect.unit (s := S256x7168) (k0_off10 k) S32x256.size (k0_off10_inb k))) shapeCasts_S32x256_S32x256

/-- Trip number `n` of the loop. -/
def tripNo (n : ℕ) : Fin k0_t1_loop.trips := ⟨n % k0_t1_loop.trips, Nat.mod_lt _ (by decide)⟩

theorem tripNo_val (k : Fin k0_t1_loop.trips) : tripNo k.val = k := Fin.ext (Nat.mod_eq_of_lt k.isLt)

/-- The units' state before trip `n`. -/
def state (n : ℕ) : Mxu F := stateTo (fun n => tile x1 x2 x3 (tripNo n)) (fun n => xAt x0 (tripNo n)) n

/-- A trip takes the state to the next. -/
theorem state_succ : trip (state x0 x1 x2 x3 k.val) (tile x1 x2 x3 k) (xAt x0 k) = state x0 x1 x2 x3 (k.val + 1) := by
  unfold state; rw [stateTo, tripNo_val]

end Cert.Awq.KI

end
-- ==== Proof.PI.Out.lean ====
/-
  What the kernel stores, at any arithmetic, in the program's own operations: the eight columns of words that a piece's
  four accumulators give, the network of rotates and selects that interleaves them, and the 128 stored pieces.
-/
module

public import proofs.«01_k».proof.Proof.PI.Tile
public import proofs.«01_k».proof.Proof.Pops

@[expose] public section

set_option maxRecDepth 16384

noncomputable section

namespace Cert.Awq.KI

open Cert.KernelIdeal Cert.KernelIdeal.Gen Idealize.ShloMosaic Idealize.ShloMosaic.TcCoe

variable {F : FTy → Type} [FloatOps F]

/-- The lanes whose bit `b` is clear. -/
def clear (b : BitVec 32) : IVec S8x128 1 :=
  cmpi .eq (andi (shrsi (iota .tc S8x128 32 [1] iota_S8x128_d1_w32) (broadcast S8x128 b)) (broadcast S8x128 1#32)) (broadcast S8x128 0#32)

section Network
variable {α : Type}

/-- The first of a pair after a stage: `a` where the bit is clear, and elsewhere `e` moved up by `d` lanes. -/
def lower (b d : BitVec 32) (a e : S8x128.Idx → α) : S8x128.Idx → α := select (clear b) a (dynamicRotate 1 d none e rotates_S8x128_d1)
/-- The second: `a` moved down where the bit is clear (by `d' = 128 - d` lanes round), and elsewhere `e`. -/
def upper (b d' : BitVec 32) (a e : S8x128.Idx → α) : S8x128.Idx → α := select (clear b) (dynamicRotate 1 d' none a rotates_S8x128_d1) e

/-- The three stages of the interleaving network. -/
def stage0 (v : Fin 8 → S8x128.Idx → α) : Fin 8 → S8x128.Idx → α
  | 0 => lower 4#32 16#32 (v 0) (v 1) | 1 => upper 4#32 112#32 (v 0) (v 1)
  | 2 => lower 4#32 16#32 (v 2) (v 3) | 3 => upper 4#32 112#32 (v 2) (v 3)
  | 4 => lower 4#32 16#32 (v 4) (v 5) | 5 => upper 4#32 112#32 (v 4) (v 5)
  | 6 => lower 4#32 16#32 (v 6) (v 7) | 7 => upper 4#32 112#32 (v 6) (v 7)
def stage1 (v : Fin 8 → S8x128.Idx → α) : Fin 8 → S8x128.Idx → α
  | 0 => lower 5#32 32#32 (v 0) (v 2) | 2 => upper 5#32 96#32 (v 0) (v 2)
  | 1 => lower 5#32 32#32 (v 1) (v 3) | 3 => upper 5#32 96#32 (v 1) (v 3)
  | 4 => lower 5#32 32#32 (v 4) (v 6) | 6 => upper 5#32 96#32 (v 4) (v 6)
  | 5 => lower 5#32 32#32 (v 5) (v 7) | 7 => upper 5#32 96#32 (v 5) (v 7)
def stage2 (v : Fin 8 → S8x128.Idx → α) : Fin 8 → S8x128.Idx → α
  | 0 => lower 6#32 64#32 (v 0) (v 4) | 4 => upper 6#32 64#32 (v 0) (v 4)
  | 1 => lower 6#32 64#32 (v 1) (v 5) | 5 => upper 6#32 64#32 (v 1) (v 5)
  | 2 => lower 6#32 64#32 (v 2) (v 6) | 6 => upper 6#32 64#32 (v 2) (v 6)
  | 3 => lower 6#32 64#32 (v 3) (v 7) | 7 => upper 6#32 64#32 (v 3) (v 7)

/-- The network. -/
def net (v : Fin 8 → S8x128.Idx → α) : Fin 8 → S8x128.Idx → α := stage2 (stage1 (stage0 v))

end Network

/-- The lane that output lane `l` takes: `16 (l mod 8) + l / 8`. -/
def lanes : IVec S16x128 32 :=
  addi (muli (andi (iota .tc S16x128 32 [1] iota_S16x128_d1_w32) (broadcast S16x128 7#32)) (broadcast S16x128 16#32))
    (shrsi (iota .tc S16x128 32 [1] iota_S16x128_d1_w32) (broadcast S16x128 3#32))

/-- The same as the gather reads it: wrapped if negative (it is not), and through a unit axis. -/
def lanesRead : IVec S16x128 32 :=
  shapeCast S16x128 (shapeCast S16x128x1 (select (cmpi .slt lanes (broadcast S16x128 0#32)) (addi lanes (broadcast S16x128 128#32)) lanes)
    shapeCasts_S16x128_S16x128x1) shapeCasts_S16x128x1_S16x128

/-- One half of a unit's popped rows, rounded. -/
def left (y : FVec F S32x256 .f32) : FVec F S32x128 .bf16 := extractStridedSlice S32x128 ![0, 0] (truncf .bf16 y bitsLt_bf16_f32) slices_S32x256_o0_0_S32x128
def right (y : FVec F S32x256 .f32) : FVec F S32x128 .bf16 := extractStridedSlice S32x128 ![0, 128] (truncf .bf16 y bitsLt_bf16_f32) slices_S32x256_o0_128_S32x128

/-- Column residue `r` of a piece, from its four accumulators `y half unit`: the field whose residue is `r`. -/
def col (y : Fin 2 → Fin 2 → FVec F S32x256 .f32) : Fin 8 → FVec F S32x128 .bf16
  | 0 => left (y 0 0) | 1 => left (y 1 0) | 2 => right (y 0 0) | 3 => right (y 1 0)
  | 4 => left (y 0 1) | 5 => left (y 1 1) | 6 => right (y 0 1) | 7 => right (y 1 1)

/-- Sixteen rows of a piece's column. -/
def band (t : Fin 2) (c : FVec F S32x128 .bf16) : FVec F S16x128 .bf16 :=
  match t with
  | 0 => extractStridedSlice S16x128 ![0, 0] c slices_S32x128_o0_0_S16x128
  | 1 => extractStridedSlice S16x128 ![16, 0] c slices_S32x128_o16_0_S16x128

/-- The piece stored for band `t` and output chunk `q`. -/
def stored (y : Fin 2 → Fin 2 → FVec F S32x256 .f32) (t : Fin 2) (q : Fin 8) : FVec F S16x128 .bf16 :=
  truncf .bf16 (dynamicGather 1 (extf .f32 (interleaveRows S16x128
    (net (fun r => rowsOfParity 0 S8x128 (band t (col y r)) bitcasts_S16x128_w16_S8x128_w32) q)
    (net (fun r => rowsOfParity 1 S8x128 (band t (col y r)) bitcasts_S16x128_w16_S8x128_w32) q)
    bitcasts_S16x128_w16_S8x128_w32) bitsLt_bf16_f32) lanesRead) bitsLt_bf16_f32

/-- Where it is stored. -/
theorem stored_inb (p : Fin 8) (t : Fin 2) (q : Fin 8) (a : Fin S256x1024.rank) :
    (![32 * p.val + 16 * t.val, 128 * q.val] : Fin 2 → ℕ) a + S16x128.size a ≤ S256x1024.size a := by
  fin_cases a
  · show 32 * p.val + 16 * t.val + 16 ≤ 256; omega
  · show 128 * q.val + 128 ≤ 1024; omega

def storedAt (p : Fin 8) (t : Fin 2) (q : Fin 8) : Rect S256x1024 :=
  Rect.unit (s := S256x1024) ![32 * p.val + 16 * t.val, 128 * q.val] S16x128.size (stored_inb p t q)

/-- The accumulators of piece `p`, as they are popped from state `s`. -/
def popped (s : Mxu F) (p : Fin 8) : Fin 2 → Fin 2 → FVec F S32x256 .f32 := fun h m => popRead s (4 * p.val + 2 * h.val + m.val)

/-- The eight stores of a band, last first, before the earlier ones. -/
def bandStores (s : Mxu F) (p : Fin 8) (t : Fin 2) (rest : List (View.Piece (Elt F) S256x1024 .bf16)) : List (View.Piece (Elt F) S256x1024 .bf16) :=
  ⟨storedAt p t 7, stored (popped s p) t 7⟩ :: ⟨storedAt p t 6, stored (popped s p) t 6⟩ :: ⟨storedAt p t 5, stored (popped s p) t 5⟩ ::
  ⟨storedAt p t 4, stored (popped s p) t 4⟩ :: ⟨storedAt p t 3, stored (popped s p) t 3⟩ :: ⟨storedAt p t 2, stored (popped s p) t 2⟩ ::
  ⟨storedAt p t 1, stored (popped s p) t 1⟩ :: ⟨storedAt p t 0, stored (popped s p) t 0⟩ :: rest

/-- All 128 stores, last first. -/
def stores (s : Mxu F) : List (View.Piece (Elt F) S256x1024 .bf16) :=
  bandStores s 7 1 <| bandStores s 7 0 <| bandStores s 6 1 <| bandStores s 6 0 <| bandStores s 5 1 <| bandStores s 5 0 <|
  bandStores s 4 1 <| bandStores s 4 0 <| bandStores s 3 1 <| bandStores s 3 0 <| bandStores s 2 1 <| bandStores s 2 0 <|
  bandStores s 1 1 <| bandStores s 1 0 <| bandStores s 0 1 <| bandStores s 0 0 []

end Cert.Awq.KI

end
-- ==== Proof.PI.Trip.lean ====
/-
  One trip of the kernel's loop, at any arithmetic: the run of its 39 printed parts.
-/
module

public import proofs.«01_k».proof.Proof.PI.Tile
public import proofs.«01_k».proof.Proof.Gen.KernelIdeal.Loops
public import proofs.«01_k».proof.Proof.Gen.KernelIdeal.Skeleton
public import Idealize.ShloMosaic.Adequacy
public import Idealize.ShloMosaic.Init

@[expose] public section

set_option maxRecDepth 65536

noncomputable section

namespace Cert.Awq.KI

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Before trip `k` the units' state is the one the closed form says, and the four operands are held. -/
def inv (c : Dev nD)
    (arg1 : Memref sig .tc .vmem S256x7168 .bf16) (arg2 : Memref sig .tc .vmem S7168x128 .i32) (arg3 : Memref sig .tc .vmem S448x128 .bf16) (arg4 : Memref sig .tc .vmem S448x128 .i32)
    (f0 : arg1.view.ref.ty.Contents (Elt F)) (f1 : arg2.view.ref.ty.Contents (Elt F)) (f2 : arg3.view.ref.ty.Contents (Elt F)) (f3 : arg4.view.ref.ty.Contents (Elt F))
    (k : ℕ) (s : Mxu F) : sProp 𝕄 :=
  iprop(⌜s = state (arg1.view.read (Elt F) f0) (arg2.view.read (Elt F) f1) (arg3.view.read (Elt F) f2) (arg4.view.read (Elt F) f3) k⌝ ∗ (arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3))

set_option maxHeartbeats 8000000 in
/-- One trip: from the closed form's state to the next one. -/
theorem run_trip (c : Dev nD) (i : grid0.Coords)
    (arg1 : Memref sig .tc .vmem S256x7168 .bf16) (harg1 : arg1.IsWhole) (arg2 : Memref sig .tc .vmem S7168x128 .i32) (harg2 : arg2.IsWhole)
    (arg3 : Memref sig .tc .vmem S448x128 .bf16) (harg3 : arg3.IsWhole) (arg4 : Memref sig .tc .vmem S448x128 .i32) (harg4 : arg4.IsWhole)
    (arg5 : Memref sig .tc .vmem S256x1024 .bf16) (harg5 : arg5.IsWhole)
    (f0 : arg1.view.ref.ty.Contents (Elt F)) (f1 : arg2.view.ref.ty.Contents (Elt F)) (f2 : arg3.view.ref.ty.Contents (Elt F)) (f3 : arg4.view.ref.ty.Contents (Elt F))
    (k : Fin k0_t1_loop.trips) (s : Mxu F) :
    inv c arg1 arg2 arg3 arg4 f0 f1 f2 f3 k.val s
      ⊢ wp frame (wpE (defs₀ (F := F)) Variants.none (c : Thread nD τ) none) Set.univ
          (k0_t1_body i arg1 harg1 arg2 harg2 arg3 harg3 arg4 harg4 arg5 harg5 k s)
          (inv c arg1 arg2 arg3 arg4 f0 f1 f2 f3 (k.val + 1)) := by
  unfold inv
  iintro ⟨%hst, H0, H1, H2, H3⟩
  have hs : NoReg s := hst ▸ noReg_stateTo _ _ _
  have hp : s.PushOk 0 0 false := Mxu.pushOk_of_none _ _ _ _ (hs 0 0)
  have hp1 : s.PushOk 1 0 false := Mxu.pushOk_of_none _ _ _ _ (hs 1 0)
  have hp2 : s.PushOk 0 1 false := Mxu.pushOk_of_none _ _ _ _ (hs 0 1)
  have hp3 : s.PushOk 1 1 false := Mxu.pushOk_of_none _ _ _ _ (hs 1 1)
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
  sl_exec (disch := first
    | (show Mxu.PushOk _ 1 0 _; exact Mxu.pushOk_pushed hp1 _ _ _)
    | (show Mxu.PushOk _ 0 1 _; exact Mxu.pushOk_accBy (Mxu.pushOk_accBy (Mxu.pushOk_accBy (Mxu.pushOk_accBy (Mxu.pushOk_accBy (Mxu.pushOk_accBy (Mxu.pushOk_accBy (Mxu.pushOk_accBy (Mxu.pushOk_accBy (Mxu.pushOk_accBy (Mxu.pushOk_accBy (Mxu.pushOk_accBy (Mxu.pushOk_accBy (Mxu.pushOk_accBy (Mxu.pushOk_accLhs (Mxu.pushOk_accLhs (Mxu.pushOk_pushed (Mxu.pushOk_pushed hp2 _ _ _) _ _ _) _ _ _ _ _) _ _ _ _ _) _ _ _ _ _) _ _ _ _ _) _ _ _ _ _) _ _ _ _ _) _ _ _ _ _) _ _ _ _ _) _ _ _ _ _) _ _ _ _ _) _ _ _ _ _) _ _ _ _ _) _ _ _ _ _) _ _ _ _ _) _ _ _ _ _) _ _ _ _ _)
    | (show Mxu.PushOk _ 1 1 _; exact Mxu.pushOk_pushed (Mxu.pushOk_accBy (Mxu.pushOk_accBy (Mxu.pushOk_accBy (Mxu.pushOk_accBy (Mxu.pushOk_accBy (Mxu.pushOk_accBy (Mxu.pushOk_accBy (Mxu.pushOk_accBy (Mxu.pushOk_accBy (Mxu.pushOk_accBy (Mxu.pushOk_accBy (Mxu.pushOk_accBy (Mxu.pushOk_accBy (Mxu.pushOk_accBy (Mxu.pushOk_accLhs (Mxu.pushOk_accLhs (Mxu.pushOk_pushed (Mxu.pushOk_pushed hp3 _ _ _) _ _ _) _ _ _ _ _) _ _ _ _ _) _ _ _ _ _) _ _ _ _ _) _ _ _ _ _) _ _ _ _ _) _ _ _ _ _) _ _ _ _ _) _ _ _ _ _) _ _ _ _ _) _ _ _ _ _) _ _ _ _ _) _ _ _ _ _) _ _ _ _ _) _ _ _ _ _) _ _ _ _ _) _ _ _))
  sl_step
  isplitr
  · ipureintro
    rw [← state_succ, ← hst]
    rfl
  isplitl [H0]; · iexact H0
  isplitl [H1]; · iexact H1
  isplitl [H2]; · iexact H2
  iexact H3

end Cert.Awq.KI

end
-- ==== Proof.PI.Body.lean ====
/-
  The kernel's body at one grid point, at any arithmetic.
-/
module

public import proofs.«01_k».proof.Proof.PI.Out
public import proofs.«01_k».proof.Proof.PI.Trip
public import proofs.«01_k».proof.Proof.Gen.KernelIdeal.Loops
public import proofs.«01_k».proof.Proof.Gen.KernelIdeal.Skeleton
public import Idealize.ShloMosaic.Adequacy
public import Idealize.ShloMosaic.Init

@[expose] public section

set_option maxRecDepth 65536

noncomputable section

namespace Cert.Awq.KI

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The kernel's result block from its four operand blocks: the 128 stores, over the units' state after the loop. -/
def out0_4 (x0 : Vec F S256x7168 .bf16) (x1 : Vec F S7168x128 .i32) (x2 : Vec F S448x128 .bf16) (x3 : Vec F S448x128 .i32) : Vec F S256x1024 .bf16 :=
  View.canon (stores (state x0 x1 x2 x3 k0_t1_loop.trips))

/-- The 128 stores tile the block, so they cover it. -/
theorem cover_stores (s : Mxu F) (y : S256x1024.Idx) : ∃ p ∈ stores s, y ∈ p.1.set :=
  View.cover_of_tiled (stores s) S16x128.size (by rfl) y

set_option maxHeartbeats 16000000 in
/-- The whole body at one grid point: the operands as they were, the result block `out0_4` of them. -/
theorem sound_kernel (c : Dev nD) (i : grid0.Coords)
    (arg1 : Memref sig .tc .vmem S256x7168 .bf16) (harg1 : arg1.IsWhole) (arg2 : Memref sig .tc .vmem S7168x128 .i32) (harg2 : arg2.IsWhole)
    (arg3 : Memref sig .tc .vmem S448x128 .bf16) (harg3 : arg3.IsWhole) (arg4 : Memref sig .tc .vmem S448x128 .i32) (harg4 : arg4.IsWhole)
    (arg5 : Memref sig .tc .vmem S256x1024 .bf16) (harg5 : arg5.IsWhole)
    (x0 : Vec F S256x7168 .bf16) (x1 : Vec F S7168x128 .i32) (x2 : Vec F S448x128 .bf16) (x3 : Vec F S448x128 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗
        (∃ d, owns (c : Thread nD τ) arg5 fullShare d) ∗
        (iprop(owns (c : Thread nD τ) arg1 fullShare x0 ∗ owns (c : Thread nD τ) arg2 fullShare x1 ∗ owns (c : Thread nD τ) arg3 fullShare x2 ∗ owns (c : Thread nD τ) arg4 fullShare x3 ∗
          owns (c : Thread nD τ) arg5 fullShare (out0_4 x0 x1 x2 x3)) -∗ K ⟨⟩))
      ⊢ wp frame (wpE (defs₀ (F := F)) Variants.none (c : Thread nD τ) none) Set.univ
          (cc0_awq_int4_linear i arg1 harg1 arg2 harg2 arg3 harg3 arg4 harg4 arg5 harg5) K := by
  simp only [cc0_awq_int4_linear_eq_skeleton]
  unfold cc0_awq_int4_linear_skel
  simp only [k0_part118_eq_skeleton]
  unfold k0_part118_skel
  simp only [k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_for (inv c arg1 arg2 arg3 arg4 f0 f1 f2 f3) $$ [H0 H1 H2 H3]
  case region => intro k s; exact run_trip c i arg1 harg1 arg2 harg2 arg3 harg3 arg4 harg4 arg5 harg5 f0 f1 f2 f3 k s
  · unfold inv; isplitr; · ipureintro; rfl
    isplitl [H0]; · iexact H0
    isplitl [H1]; · iexact H1
    isplitl [H2]; · iexact H2
    iexact H3
  iintro %s HI
  unfold inv; icases HI with ⟨%hs, H0, H1, H2, H3⟩
  subst hs
  have hd : (popN (state (arg1.view.read (Elt F) f0) (arg2.view.read (Elt F) f1) (arg3.view.read (Elt F) f2) (arg4.view.read (Elt F) f3) k0_t1_loop.trips) 32).Drained :=
    drained_popN _ _ _
  sl_exec (disch := (show Mxu.Drained _; exact hd))
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  iexists _; isplitr
  swap
  · iexact H4
  ipureintro
  refine Eq.trans (congrArg (fun L => arg5.view.read (Elt F) (arg5.view.writes (Elt F) f4 L)) (?_ : _ = stores (state (arg1.view.read (Elt F) f0) (arg2.view.read (Elt F) f1) (arg3.view.read (Elt F) f2) (arg4.view.read (Elt F) f3) k0_t1_loop.trips))) (View.read_writes_eq_canon _ _ _ (cover_stores _))
  rfl

end Cert.Awq.KI

end
-- ==== Proof.PI.Run.lean ====
/-
  The launch of the kernel over its grid of 18 column blocks, at any arithmetic: the pipeline's proof data, its body
  obligation, the frame, and the result array block by block.
-/
module

public import proofs.«01_k».proof.Proof.PI.Body
public import Idealize.ShloMosaic.Lib.Claim
public import Idealize.ShloMosaic.Lib.Pipeline.Value

@[expose] public section

set_option maxRecDepth 16384

noncomputable section

namespace Cert.Awq.KI

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- The launch: every execution ends with the arrays at what the pipeline's proof data give and every other buffer as it was, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-- What point `t` writes back to output window 4's array: the body's result for that window (`out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- The index map sends distinct grid points to distinct block indices (decided over the 18 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- Block `t` of the final array, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v75) = (dats m 0 c).arrAt 4 cfg0.N :=
  (h c).1 4

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run named — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v75) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      kept_main_arg0 m r h c,
      kept_main_arg1 m r h c,
      kept_main_arg2 m r h c,
      kept_main_arg3 m r h c⟩)
    (run_main m ρ)

end Cert.Awq.KI

end
-- ==== Proof.Value.Word.lean ====
/-
  The bits: a word of packed weights holds eight fields of four bits; the kernel takes two words' halves side by side,
  masks the same field of both out and sets the pattern `0x4300` above it, which read as a bf16 is 128 plus the field.
-/
module

public import Idealize.ShloMosaic.Lib.BitcastPair
public import Idealize.ShloMosaic.Lib.BitcastPair.Halves
public import Idealize.ShloMosaic.PureOps.Ideal.Laws

@[expose] public section

noncomputable section

namespace Cert.Awq

open Idealize.ShloMosaic

/-- Field `f` of a word: its bits `4 f … 4 f + 3`. -/
def nib (w : BitVec 32) (f : ℕ) : ℕ := w.toNat / 2 ^ (4 * f) % 16

theorem nib_lt (w : BitVec 32) (f : ℕ) : nib w f < 16 := Nat.mod_lt _ (by decide)

/-- Shifted down and masked, by a logical shift. -/
theorem ushr_and (w : BitVec 32) (f : ℕ) : ((w >>> (4 * f)) &&& 15#32).toNat = nib w f := by
  rw [BitVec.toNat_and, BitVec.toNat_ushiftRight, Nat.shiftRight_eq_div_pow]
  exact Nat.and_two_pow_sub_one_eq_mod _ 4

/-- Shifted down and masked, by an arithmetic shift of at most 28: the bits that the sign fills are masked away. -/
theorem sshr_and (w : BitVec 32) (f : ℕ) (hf : f < 8) : (w.sshiftRight (4 * f) &&& 15#32) = (w >>> (4 * f)) &&& 15#32 := by
  apply BitVec.eq_of_getLsbD_eq
  intro i hi
  simp only [BitVec.getLsbD_and, BitVec.getLsbD_sshiftRight, BitVec.getLsbD_ushiftRight]
  by_cases h4 : i < 4
  · have : 4 * f + i < 32 := by omega
    simp [this, show ¬ 32 ≤ i by omega]
  · have : (15#32).getLsbD i = false := by
      have hi' : i < 32 := hi
      interval_cases i <;> first | (exfalso; omega) | rfl
    rw [this, Bool.and_false, Bool.and_false]

/-- Half `h` of a word. -/
def halfWord (h : Fin 2) (w : BitVec 32) : BitVec 16 := (w >>> (16 * h.val)).setWidth 16

theorem halfWord_nib (h : Fin 2) (w : BitVec 32) (f : Fin 4) :
    ((halfWord h w >>> (4 * f.val)) &&& 15#16).toNat = nib w (4 * h.val + f.val) := by
  rw [halfWord, BitVec.toNat_and, BitVec.toNat_ushiftRight, BitVec.toNat_setWidth, BitVec.toNat_ushiftRight,
    Nat.shiftRight_eq_div_pow, Nat.shiftRight_eq_div_pow, nib]
  refine (Nat.and_two_pow_sub_one_eq_mod _ 4).trans ?_
  obtain ⟨f, hf⟩ := f
  obtain ⟨h, hh⟩ := h
  have := w.isLt
  interval_cases f <;> interval_cases h <;> norm_num <;> omega

/-- The masked pair, half by half. -/
theorem pair_half (hi lo : BitVec 16) (f : Fin 4) (p : ℕ) (hp : p < 2) :
    ((((hi ++ lo) >>> (4 * f.val)) &&& 983055#32) ||| 1124090624#32).extractLsb' (16 * p) 16
      = (((if p = 0 then lo else hi) >>> (4 * f.val)) &&& 15#16) ||| 0x4300#16 := by
  obtain ⟨f, hf⟩ := f
  apply BitVec.eq_of_getLsbD_eq
  intro i hi'
  interval_cases p <;> interval_cases f <;> interval_cases i <;>
    simp only [BitVec.getLsbD_extractLsb', BitVec.getLsbD_or, BitVec.getLsbD_and, BitVec.getLsbD_append, BitVec.getLsbD_ushiftRight] <;> simp

/-- A word that holds a 16-bit pattern twice, half by half. -/
theorem dup_half (x : BitVec 32) (p : ℕ) (hp : p < 2) (hx : x.toNat < 16) :
    ((x ||| x <<< 16) ||| 1124090624#32).extractLsb' (16 * p) 16 = x.setWidth 16 ||| 0x4300#16 := by
  obtain ⟨n, hn⟩ : ∃ n : ℕ, x = BitVec.ofNat 32 n ∧ n < 16 := ⟨x.toNat, by simp, hx⟩
  obtain ⟨rfl, hn⟩ := hn
  interval_cases p <;> interval_cases n <;> rfl

/-- The pattern `0x4300` with a four-bit number below it is 128 plus that number. -/
theorem ofBits_nib (x : BitVec 16) (hx : x.toNat < 16) : Ideal.ofBits .bf16 (x ||| 0x4300#16) = (((128 + x.toNat : ℕ) : ℝ) : EReal) := by
  obtain ⟨n, hn⟩ : ∃ n : ℕ, x = BitVec.ofNat 16 n ∧ n < 16 := ⟨x.toNat, by simp, hx⟩
  obtain ⟨rfl, hn⟩ := hn
  interval_cases n <;> simp [Ideal.ofBits, Ideal.ieee, -EReal.coe_mul]

/-- The offset 128 falls away in a difference. -/
theorem sub_offset (a b : ℕ) :
    (((128 + a : ℕ) : ℝ) : EReal) - (((128 + b : ℕ) : ℝ) : EReal) = ((a : ℝ) : EReal) - ((b : ℝ) : EReal) := by
  rw [← EReal.coe_sub, ← EReal.coe_sub]; congr 1; push_cast; ring

end Cert.Awq

end
-- ==== Proof.Value.Spec.lean ====
/-
  The result that both programs compute at exact arithmetic, entry by entry: row `I` of the activations times column `o`
  of the dequantised weights. Column `o = 8 n + r` is a field of packed column `n`; field `f` of a packed word holds the
  column whose residue is `0, 2, 4, 6, 1, 3, 5, 7` for `f = 0 … 7`.
-/
module

public import proofs.«01_k».proof.Proof.Value.Word
public import Idealize.ShloMosaic.Lib.Pointwise

@[expose] public section

noncomputable section

namespace Cert.Awq

open Idealize.ShloMosaic

/-- The field that holds the columns of residue `r` modulo 8. -/
def fieldOf (r : Fin 8) : Fin 8 := ![0, 4, 1, 5, 2, 6, 3, 7] r
/-- The residue of the columns that field `f` holds. -/
def colOf (f : Fin 8) : Fin 8 := ![0, 2, 4, 6, 1, 3, 5, 7] f

theorem colOf_fieldOf : ∀ r : Fin 8, colOf (fieldOf r) = r := by decide

/-- The weight of row `R`, packed column `n`, field `f`: `(nibble − zero point) · scale`. -/
def weight (W : (⟨2, ![7168, 2304]⟩ : Shape).Idx → BitVec 32) (S : (⟨2, ![56, 18432]⟩ : Shape).Idx → EReal)
    (Z : (⟨2, ![56, 2304]⟩ : Shape).Idx → BitVec 32) (R : Fin 7168) (f : Fin 8) (n : Fin 2304) : EReal :=
  (((nib (W (ix2 R n)) f.val : ℝ) : EReal) - ((nib (Z (ix2 ⟨R.val / 128, by omega⟩ n)) f.val : ℝ) : EReal))
    * S (ix2 ⟨R.val / 128, by omega⟩ ⟨8 * n.val + (colOf f).val, by omega⟩)

/-- Entry `(I, o)` of the result. -/
def product (X : (⟨3, ![2, 128, 7168]⟩ : Shape).Idx → EReal) (W : (⟨2, ![7168, 2304]⟩ : Shape).Idx → BitVec 32)
    (S : (⟨2, ![56, 18432]⟩ : Shape).Idx → EReal) (Z : (⟨2, ![56, 2304]⟩ : Shape).Idx → BitVec 32) (I : Fin 256) (o : Fin 18432) : EReal :=
  ∑ R : Fin 7168, X (ix3 ⟨I.val / 128, by omega⟩ ⟨I.val % 128, by omega⟩ R) * weight W S Z R (fieldOf ⟨o.val % 8, by omega⟩) ⟨o.val / 8, by omega⟩

/-- A field read by an arithmetic shift and a mask. -/
theorem field_word (w : BitVec 32) (f : Fin 8) : IntOp.andi (IntOp.shrsi .host w (BitVec.ofNat 32 (4 * f.val))) 15#32 = (w >>> (4 * f.val)) &&& 15#32 := by
  have hn : (BitVec.ofNat 32 (4 * f.val)).toNat = 4 * f.val := by rw [BitVec.toNat_ofNat]; omega
  unfold IntOp.andi IntOp.shrsi
  rw [if_pos (by rw [hn]; omega), BitVec.sshiftRight', hn, sshr_and w f.val f.isLt]

theorem field_toNat (w : BitVec 32) (f : Fin 8) : (IntOp.andi (IntOp.shrsi .host w (BitVec.ofNat 32 (4 * f.val))) 15#32).toNat = nib w f.val := by
  rw [field_word, ushr_and]

/-- The same as a number. -/
theorem field_real (w : BitVec 32) (f : Fin 8) :
    (((IntOp.andi (IntOp.shrsi .host w (BitVec.ofNat 32 (4 * f.val))) 15#32).toInt : ℝ) : EReal) = ((nib w f.val : ℝ) : EReal) := by
  have h := field_toNat w f
  have hl := nib_lt w f.val
  rw [BitVec.toInt_eq_toNat_of_lt (by rw [h]; omega), h]
  norm_cast

end Cert.Awq

end
-- ==== Proof.Value.Reference.lean ====
/-
  The reference at exact arithmetic, entry by entry.
-/
module

public import proofs.«01_k».proof.Proof.Gen.ReferenceIdeal.Run
public import proofs.«01_k».proof.Proof.Value.Spec
public import Idealize.ShloMosaic.Lib.Pipeline.Value

@[expose] public section

set_option maxRecDepth 16384

noncomputable section

namespace Cert.Awq.Ref

open Cert.ReferenceIdeal Cert.ReferenceIdeal.Gen Idealize.ShloMosaic Idealize.ShloMosaic.TcCoe

variable (X : FVec Idealize.ShloMosaic.Ideal S2x128x7168 .bf16) (W : IVec S7168x2304 32) (S : FVec Idealize.ShloMosaic.Ideal S56x18432 .bf16) (Z : IVec S56x2304 32)

/-- The columns of one residue, as the reference's operations give them: the field `sh / 4` of the packed words, the
    scales of every eighth column from `r`. -/
def part (sh : BitVec 32) (r : ℕ) (h : S56x18432.SlicesBy (![0, r] : Fin 2 → ℕ) ![1, 8] S56x2304) : FVec Idealize.ShloMosaic.Ideal S2x128x2304 .f32 :=
  Host.dotGeneral dot_S2x128x7168_S7168x2304_S2x128x2304_2_0_01_1_n_n none X
    (shapeCast S7168x2304 (mulf (subf
      (shapeCast S56x128x2304 (sitofp .bf16 (andi (Host.shrsi W (broadcastInDim S7168x2304 ![] bcast_S_S7168x2304 (constantI S_ 32 sh)))
        (broadcastInDim S7168x2304 ![] bcast_S_S7168x2304 (constantI S_ 32 15#32)))) shapeCasts_S7168x2304_S56x128x2304)
      (broadcastInDim S56x128x2304 ![0, 1, 2] bcast_S56x1x2304_S56x128x2304_0_1_2 (broadcastInDim S56x1x2304 ![0, 2] bcast_S56x2304_S56x1x2304_0_2
        (sitofp .bf16 (andi (Host.shrsi Z (broadcastInDim S56x2304 ![] bcast_S_S56x2304 (constantI S_ 32 sh)))
          (broadcastInDim S56x2304 ![] bcast_S_S56x2304 (constantI S_ 32 15#32)))))))
      (broadcastInDim S56x128x2304 ![0, 1, 2] bcast_S56x1x2304_S56x128x2304_0_1_2 (broadcastInDim S56x1x2304 ![0, 2] bcast_S56x2304_S56x1x2304_0_2
        (Host.slice S56x2304 ![0, r] ![1, 8] S h)))) shapeCasts_S56x128x2304_S7168x2304)

theorem part_apply (r : Fin 8) (h : S56x18432.SlicesBy (![0, r.val] : Fin 2 → ℕ) ![1, 8] S56x2304) (a : Fin 2) (b : Fin 128) (n : Fin 2304) :
    part X W S Z (BitVec.ofNat 32 (4 * (fieldOf r).val)) r.val h (ix3 a b n)
      = ∑ R : Fin 7168, X (ix3 a b R) * weight W S Z R (fieldOf r) n := by
  pointwise [part]
  refine Finset.sum_congr rfl fun R _ => ?_
  have e : (⟨r.val + 8 * n.val, by omega⟩ : Fin 18432) = ⟨8 * n.val + (colOf (fieldOf r)).val, by omega⟩ := by
    rw [Fin.mk.injEq, colOf_fieldOf]; omega
  show (X (ix3 a b R) : EReal) * (((((IntOp.andi (IntOp.shrsi .host (W (ix2 R n)) (BitVec.ofNat 32 (4 * (fieldOf r).val))) 15#32).toInt : ℝ) : EReal)
    - (((IntOp.andi (IntOp.shrsi .host (Z (ix2 ⟨R.val / 128, by omega⟩ n)) (BitVec.ofNat 32 (4 * (fieldOf r).val))) 15#32).toInt : ℝ) : EReal)) * (S (ix2 _ _) : EReal)) = _
  rw [field_real, field_real, weight, e]

theorem slices (r : Fin 8) : S56x18432.SlicesBy (![0, r.val] : Fin 2 → ℕ) ![1, 8] S56x2304 := by
  fin_cases r
  exacts [slicesBy_S56x18432_S56x2304_0s1_0s8, slicesBy_S56x18432_S56x2304_0s1_1s8, slicesBy_S56x18432_S56x2304_0s1_2s8,
    slicesBy_S56x18432_S56x2304_0s1_3s8, slicesBy_S56x18432_S56x2304_0s1_4s8, slicesBy_S56x18432_S56x2304_0s1_5s8,
    slicesBy_S56x18432_S56x2304_0s1_6s8, slicesBy_S56x18432_S56x2304_0s1_7s8]

/-- The eight residues side by side. -/
def piece (r : Fin 8) : FVec Idealize.ShloMosaic.Ideal S2x128x2304x1 .f32 :=
  broadcastInDim S2x128x2304x1 ![0, 1, 2] bcast_S2x128x2304_S2x128x2304x1_0_1_2
    (part X W S Z (BitVec.ofNat 32 (4 * (fieldOf r).val)) r.val (slices r))

variable (V : Valuation τ sig (Elt Idealize.ShloMosaic.Ideal))

theorem stacked_apply (a : Fin 2) (b : Fin 128) (n : Fin 2304) (r : Fin 8) :
    (Value.res_main_v168 V : FVec Idealize.ShloMosaic.Ideal S2x128x2304x8 .f32) (ix4 a b n r)
      = (∑ R : Fin 7168, (show EReal from (V main_arg0 : FVec Idealize.ShloMosaic.Ideal S2x128x7168 .bf16) (ix3 a b R))
          * weight (V main_arg1) (V main_arg2) (V main_arg3) R (fieldOf r) n : EReal) := by
  unfold Value.res_main_v168
  refine (concatenate_ofFn_apply (t := S2x128x2304x8) (s₁ := S2x128x2304x1) 3
    (piece (V main_arg0) (V main_arg1) (V main_arg2) (V main_arg3)) _ rfl 1 rfl (ix4 a b n r) r (Nat.div_one _) (ix4 a b n 0)
    (Nat.mod_one _).symm (fun b hb => ?_)).trans ?_
  · match b with
    | ⟨0, _⟩ => rfl
    | ⟨1, _⟩ => rfl
    | ⟨2, _⟩ => rfl
    | ⟨3, _⟩ => exact absurd rfl hb
  · pointwise [piece]
    exact part_apply _ _ _ _ r (slices r) a b n

/-- The reference's result at row `I`, column `o`. -/
theorem result_apply (I : Fin 256) (o : Fin 18432) :
    (truncf .bf16 (shapeCast _ (Value.res_main_v168 V : FVec Idealize.ShloMosaic.Ideal S2x128x2304x8 .f32) shapeCasts_S2x128x2304x8_S256x18432) bitsLt_bf16_f32
        : FVec Idealize.ShloMosaic.Ideal S256x18432 .bf16) (ix2 I o)
      = product (V main_arg0) (V main_arg1) (V main_arg2) (V main_arg3) I o := by
  pointwise
  exact stacked_apply V _ _ _ _

end Cert.Awq.Ref

end
-- ==== Proof.Value.Net.lean ====
/-
  The interleaving network as a reindexing: what output `q` of the three stages holds at lane `l` is what input `l / 16`
  held at lane `16 q + l mod 16`, and the gather then reads lane `16 (l mod 8) + l / 8`. Together: lane `l` of stored
  piece `q` is lane `16 q + l / 8` of column `l mod 8`.
-/
module

public import proofs.«01_k».proof.Proof.PI.Out
public import Idealize.ShloMosaic.Lib.PointwiseCore

@[expose] public section

set_option maxRecDepth 16384

noncomputable section

namespace Cert.Awq.KI

open Cert.KernelIdeal Cert.KernelIdeal.Gen Idealize.ShloMosaic Idealize.ShloMosaic.TcCoe

variable {α : Type}

/-- The lanes whose bit `b` is clear, at a lane. -/
theorem clear_apply (b : ℕ) (hb : b < 8) (j : Fin 8) (l : Fin 128) :
    clear (BitVec.ofNat 32 b) (ix2 j l) = BitVec.ofBool (decide (l.val / 2 ^ b % 2 = 0)) := by
  have key : ∀ b : Fin 8, ∀ l : Fin 128,
      IntOp.cmpi .eq (IntOp.andi (IntOp.shrsi .vector (BitVec.ofNat 32 l.val) (BitVec.ofNat 32 b.val)) 1#32) 0#32
        = BitVec.ofBool (decide (l.val / 2 ^ b.val % 2 = 0)) := by decide +kernel
  exact (show _ = IntOp.cmpi .eq (IntOp.andi (IntOp.shrsi .vector (BitVec.ofNat 32 l.val) (BitVec.ofNat 32 b)) 1#32) 0#32 by
    pointwise [clear]).trans (key ⟨b, hb⟩ l)

/-- A rotation along the lanes, at a lane. -/
theorem rotate_apply (d : ℕ) (hd : d < 128) (x : S8x128.Idx → α) (j : Fin 8) (l : Fin 128) :
    dynamicRotate 1 (BitVec.ofNat 32 d) none x rotates_S8x128_d1 (ix2 j l) = x (ix2 j ⟨(l.val + 128 - d) % 128, Nat.mod_lt _ (by decide)⟩) := by
  unfold dynamicRotate
  refine congrArg x (funext fun a => Fin.ext ?_)
  match a with
  | ⟨0, _⟩ => rfl
  | ⟨1, _⟩ =>
    show (l.val + 128 - ((BitVec.ofNat 32 d).toNat + 0) % 128) % 128 = (l.val + 128 - d) % 128
    rw [BitVec.toNat_ofNat]
    have : (d % 2 ^ 32 + 0) % 128 = d := by omega
    rw [this]

/-- Lane `l` of the first of a pair after stage `b`. -/
theorem lower_apply (b : ℕ) (hb : b < 7) (a e : S8x128.Idx → α) (j : Fin 8) (l : Fin 128) :
    lower (BitVec.ofNat 32 b) (BitVec.ofNat 32 (2 ^ b)) a e (ix2 j l)
      = if l.val / 2 ^ b % 2 = 0 then a (ix2 j l) else e (ix2 j ⟨(l.val + 128 - 2 ^ b) % 128, Nat.mod_lt _ (by decide)⟩) := by
  have h2 : 2 ^ b < 128 := by interval_cases b <;> decide
  unfold lower select
  rw [clear_apply b (by omega), rotate_apply _ h2]
  by_cases h : l.val / 2 ^ b % 2 = 0
  · rw [if_pos h, decide_eq_true h]; rfl
  · rw [if_neg h, decide_eq_false h]; rfl

/-- Lane `l` of the second. -/
theorem upper_apply (b : ℕ) (hb : b < 7) (a e : S8x128.Idx → α) (j : Fin 8) (l : Fin 128) :
    upper (BitVec.ofNat 32 b) (BitVec.ofNat 32 (128 - 2 ^ b)) a e (ix2 j l)
      = if l.val / 2 ^ b % 2 = 0 then a (ix2 j ⟨(l.val + 2 ^ b) % 128, Nat.mod_lt _ (by decide)⟩) else e (ix2 j l) := by
  have h2 : 128 - 2 ^ b < 128 := by interval_cases b <;> decide
  have h3 : (l.val + 128 - (128 - 2 ^ b)) % 128 = (l.val + 2 ^ b) % 128 := by
    have : 2 ^ b < 128 := by interval_cases b <;> decide
    congr 1; omega
  unfold upper select
  rw [clear_apply b (by omega), rotate_apply _ h2]
  simp only [h3]
  by_cases h : l.val / 2 ^ b % 2 = 0
  · rw [if_pos h, decide_eq_true h]; rfl
  · rw [if_neg h, decide_eq_false h]; rfl

/-- Stage 0 exchanges bit 0 of the piece's number with bit 4 of the lane. -/
def src (b : ℕ) (q : Fin 8) (l : Fin 128) : Fin 8 × Fin 128 :=
  let d := 2 ^ b
  let D := 2 ^ (4 + b)
  (⟨(q.val - q.val / d % 2 * d + l.val / D % 2 * d) % 8, Nat.mod_lt _ (by decide)⟩,
   ⟨(l.val - l.val / D % 2 * D + q.val / d % 2 * D) % 128, Nat.mod_lt _ (by decide)⟩)

theorem at2 (v : Fin 8 → S8x128.Idx → α) {q q' : Fin 8} {l l' : Fin 128} (j : Fin 8) (hq : q.val = q'.val) (hl : l.val = l'.val) :
    v q (ix2 j l) = v q' (ix2 j l') := by
  rw [Fin.ext hq, Fin.ext hl]

theorem stage0_apply (v : Fin 8 → S8x128.Idx → α) (q : Fin 8) (j : Fin 8) (l : Fin 128) :
    stage0 v q (ix2 j l) = v (src 0 q l).1 (ix2 j (src 0 q l).2) := by
  have hl := lower_apply (α := α) 4 (by decide)
  have hu := upper_apply (α := α) 4 (by decide)
  norm_num at hl hu
  have hb : l.val / 16 % 2 = 0 ∨ l.val / 16 % 2 = 1 := by omega
  fin_cases q <;> simp only [stage0, hl, hu] <;> rcases hb with hb | hb <;> simp only [hb, if_true, one_ne_zero, if_false] <;>
    (refine at2 v j ?_ ?_ <;> simp [src, hb] <;> omega)

theorem stage1_apply (v : Fin 8 → S8x128.Idx → α) (q : Fin 8) (j : Fin 8) (l : Fin 128) :
    stage1 v q (ix2 j l) = v (src 1 q l).1 (ix2 j (src 1 q l).2) := by
  have hl := lower_apply (α := α) 5 (by decide)
  have hu := upper_apply (α := α) 5 (by decide)
  norm_num at hl hu
  have hb : l.val / 32 % 2 = 0 ∨ l.val / 32 % 2 = 1 := by omega
  fin_cases q <;> simp only [stage1, hl, hu] <;> rcases hb with hb | hb <;> simp only [hb, if_true, one_ne_zero, if_false] <;>
    (refine at2 v j ?_ ?_ <;> simp [src, hb] <;> omega)

theorem stage2_apply (v : Fin 8 → S8x128.Idx → α) (q : Fin 8) (j : Fin 8) (l : Fin 128) :
    stage2 v q (ix2 j l) = v (src 2 q l).1 (ix2 j (src 2 q l).2) := by
  have hl := lower_apply (α := α) 6 (by decide)
  have hu := upper_apply (α := α) 6 (by decide)
  norm_num at hl hu
  have hb : l.val / 64 % 2 = 0 ∨ l.val / 64 % 2 = 1 := by omega
  fin_cases q <;> simp only [stage2, hl, hu] <;> rcases hb with hb | hb <;> simp only [hb, if_true, one_ne_zero, if_false] <;>
    (refine at2 v j ?_ ?_ <;> simp [src, hb] <;> omega)

/-- The three exchanges one after another. -/
theorem src_comp : ∀ (q : Fin 8) (l : Fin 128),
    (src 0 (src 1 (src 2 q l).1 (src 2 q l).2).1 (src 1 (src 2 q l).1 (src 2 q l).2).2).1.val = l.val / 16 ∧
    (src 0 (src 1 (src 2 q l).1 (src 2 q l).2).1 (src 1 (src 2 q l).1 (src 2 q l).2).2).2.val = 16 * q.val + l.val % 16 := by
  decide +kernel

/-- The network at a lane. -/
theorem net_apply (v : Fin 8 → S8x128.Idx → α) (q : Fin 8) (j : Fin 8) (l : Fin 128) :
    net v q (ix2 j l) = v ⟨l.val / 16, by omega⟩ (ix2 j ⟨16 * q.val + l.val % 16, by omega⟩) := by
  unfold net
  rw [stage2_apply, stage1_apply, stage0_apply]
  exact at2 v j (src_comp q l).1 (src_comp q l).2

/-- The lane that the gather reads. -/
theorem lanesRead_apply (i : Fin 16) (l : Fin 128) : lanesRead (ix2 i l) = BitVec.ofNat 32 (16 * (l.val % 8) + l.val / 8) := by
  have key : ∀ l : Fin 128,
      (let w := IntOp.addi (IntOp.muli (IntOp.andi (BitVec.ofNat 32 l.val) 7#32) 16#32) (IntOp.shrsi .vector (BitVec.ofNat 32 l.val) 3#32)
       Scalar.select (IntOp.cmpi .slt w 0#32) (IntOp.addi w 128#32) w) = BitVec.ofNat 32 (16 * (l.val % 8) + l.val / 8) := by decide +kernel
  refine Eq.trans ?_ (key l)
  pointwise [lanesRead, lanes]

/-- A gather along the lanes, at a lane. -/
theorem gather_apply (x : S16x128.Idx → α) (i : Fin 16) (l : Fin 128) :
    dynamicGather 1 x lanesRead (ix2 i l) = x (ix2 i ⟨16 * (l.val % 8) + l.val / 8, by omega⟩) := by
  unfold dynamicGather
  refine congrArg x (funext fun a => Fin.ext ?_)
  match a with
  | ⟨0, _⟩ => rfl
  | ⟨1, _⟩ =>
    show (lanesRead (ix2 i l)).toNat % 128 = 16 * (l.val % 8) + l.val / 8
    rw [lanesRead_apply, BitVec.toNat_ofNat]; omega

/-- Both halves' networks, interleaved again and gathered: lane `l` of piece `q` is lane `16 q + l / 8` of input `l mod 8`. -/
theorem interleaved_apply (c : Fin 8 → S16x128.Idx → α) (q : Fin 8) (i : Fin 16) (l : Fin 128) :
    dynamicGather 1 (interleaveRows S16x128
      (net (fun r => rowsOfParity 0 S8x128 (c r) bitcasts_S16x128_w16_S8x128_w32) q)
      (net (fun r => rowsOfParity 1 S8x128 (c r) bitcasts_S16x128_w16_S8x128_w32) q)
      bitcasts_S16x128_w16_S8x128_w32) lanesRead (ix2 i l)
      = c ⟨l.val % 8, by omega⟩ (ix2 i ⟨16 * q.val + l.val / 8, by omega⟩) := by
  rw [gather_apply]
  have e1 : (16 * (l.val % 8) + l.val / 8) / 16 = l.val % 8 := by omega
  have e2 : (16 * (l.val % 8) + l.val / 8) % 16 = l.val / 8 := by omega
  have hc : ∀ (n n' : Fin 16) (h : n.val = n'.val), c ⟨l.val % 8, by omega⟩ (ix2 n ⟨16 * q.val + l.val / 8, by omega⟩) =
      c ⟨l.val % 8, by omega⟩ (ix2 n' ⟨16 * q.val + l.val / 8, by omega⟩) := fun n n' h => by rw [Fin.ext h]
  pointwise
  simp only [net_apply, e1, e2]
  pointwise
  split
  · exact hc _ _ (by show 2 * (i.val / 2) + 0 = i.val; omega)
  · exact hc _ _ (by show 2 * (i.val / 2) + 1 = i.val; omega)

end Cert.Awq.KI

end
-- ==== Proof.Value.Dequant.lean ====
/-
  What the kernel dequantises at exact arithmetic: each entry of 16 rows of one field is
  `(nibble − zero point) · scale`, the nibble that field of the packed word.
-/
module

public import proofs.«01_k».proof.Proof.PI.Tile
public import proofs.«01_k».proof.Proof.Value.Word
public import Idealize.ShloMosaic.Lib.Pointwise
public import Idealize.ShloMosaic.Lib.Pipeline.ValueKit.Tiles

@[expose] public section

set_option maxRecDepth 16384

noncomputable section

namespace Cert.Awq.KI

open Cert.KernelIdeal Cert.KernelIdeal.Gen Idealize.ShloMosaic Idealize.ShloMosaic.TcCoe

/-- Words split in halves: row `i` is half `i mod 2` of row `i / 2`. -/
theorem unpair_apply (y : IVec S8x128 32) (i : Fin 16) (l : Fin 128) :
    bitcast S16x128 16 y bitcasts_S8x128_w32_S16x128_w16 (ix2 i l) = (y (ix2 ⟨i.val / 2, by omega⟩ l)).extractLsb' (16 * (i.val % 2)) 16 := by
  rw [bitcast_32_16]
  refine congrArg (fun w : BitVec 32 => w.extractLsb' (16 * (i.val % 2)) 16) (congrArg y (funext fun a => Fin.ext ?_))
  match a with
  | ⟨0, _⟩ => exact Shape.Bitcasts.srcIdx_row _ _ _ _ _ rfl
  | ⟨1, _⟩ => exact Shape.Bitcasts.srcIdx_other _ _ _ _ _ (show ¬ 1 + 2 = 2 by decide)

/-- Halves joined: word `j` is rows `2 j` and `2 j + 1`, the first below. -/
theorem pair_apply (y : IVec S16x128 16) (j : Fin 8) (l : Fin 128) :
    bitcast S8x128 32 y bitcasts_S16x128_w16_S8x128_w32 (ix2 j l) = y (ix2 ⟨2 * j.val + 1, by omega⟩ l) ++ y (ix2 ⟨2 * j.val, by omega⟩ l) := by
  rw [bitcast_16_32]
  refine congrArg₂ (fun a b : BitVec 16 => a ++ b) (congrArg y (funext fun a => Fin.ext ?_)) (congrArg y (funext fun a => Fin.ext ?_))
  · match a with
    | ⟨0, _⟩ => exact Shape.Bitcasts.srcIdx_row _ _ _ _ _ rfl
    | ⟨1, _⟩ => exact Shape.Bitcasts.srcIdx_other _ _ _ _ _ (show ¬ 1 + 2 = 2 by decide)
  · match a with
    | ⟨0, _⟩ => exact Shape.Bitcasts.srcIdx_row _ _ _ _ _ rfl
    | ⟨1, _⟩ => exact Shape.Bitcasts.srcIdx_other _ _ _ _ _ (show ¬ 1 + 2 = 2 by decide)

theorem shifted_apply (f : Fin 4) (b : IVec S8x128 32) (j : S8x128.Idx) : shifted f b j = b j >>> (4 * f.val) := by
  fin_cases f
  · exact (BitVec.ushiftRight_zero _).symm
  all_goals rfl

theorem words_eq (h : Fin 2) (w : Vec Ideal S16x128 .i32) :
    words (F := Ideal) h w = bitcast S8x128 32 (fun i => halfWord h ((w : IVec S16x128 32) i)) bitcasts_S16x128_w16_S8x128_w32 := by
  fin_cases h
  · refine congrArg (fun v => bitcast S8x128 32 v bitcasts_S16x128_w16_S8x128_w32) (funext fun i => ?_)
    show ((w : IVec S16x128 32) i).setWidth 16 = halfWord 0 _
    unfold halfWord
    congr 1
  · rfl

/-- One field of 16 rows, with the offset 128. -/
theorem field_apply (h : Fin 2) (f : Fin 4) (w : Vec Ideal S16x128 .i32) (i : Fin 16) (l : Fin 128) :
    bitcastToFloat (F := Ideal) .bf16 (bitcast S16x128 16
      (ori (andi (shifted f (words h w)) (broadcast S8x128 983055#32)) (broadcast S8x128 1124090624#32)) bitcasts_S8x128_w32_S16x128_w16) (ix2 i l)
      = (((128 + nib ((w : IVec S16x128 32) (ix2 i l)) (4 * h.val + f.val) : ℕ) : ℝ) : EReal) := by
  show Ideal.ofBits .bf16 (bitcast S16x128 16 _ _ (ix2 i l)) = _
  rw [unpair_apply]
  show Ideal.ofBits .bf16 (((shifted f (words h w) _ &&& 983055#32) ||| 1124090624#32).extractLsb' _ 16) = _
  rw [shifted_apply, words_eq, pair_apply, pair_half _ _ _ _ (by omega)]
  have hw : (if i.val % 2 = 0 then halfWord h ((w : IVec S16x128 32) (ix2 ⟨2 * (i.val / 2), by omega⟩ l))
      else halfWord h ((w : IVec S16x128 32) (ix2 ⟨2 * (i.val / 2) + 1, by omega⟩ l))) = halfWord h ((w : IVec S16x128 32) (ix2 i l)) := by
    split
    · congr 3; apply Fin.ext; show 2 * (i.val / 2) = i.val; omega
    · congr 3; apply Fin.ext; show 2 * (i.val / 2) + 1 = i.val; omega
  dsimp only
  rw [hw, ofBits_nib _ (by rw [halfWord_nib]; exact nib_lt _ _), halfWord_nib]

/-- A row of zero points, with the offset 128. -/
theorem zeroRow_apply (r : Vec Ideal S1x128 .i32) (z : BitVec 32) (hz : z.toNat < 16) (i : Fin 16) (l : Fin 128)
    (hr : (r : IVec S1x128 32) (ix2 0 l) = (z ||| z <<< 16) ||| 1124090624#32) :
    zeroRow (F := Ideal) r (ix2 i l) = (((128 + z.toNat : ℕ) : ℝ) : EReal) := by
  unfold zeroRow
  show Ideal.ofBits .bf16 (bitcast S16x128 16 _ _ (ix2 i l)) = _
  rw [unpair_apply]
  have e : (broadcastTo S8x128 (shapeCast S1x128 (shapeCast S1x128 (r : IVec S1x128 32) shapeCasts_S1x128_S1x128) shapeCasts_S1x128_S1x128) broadcasts_S1x128_S8x128 : IVec S8x128 32)
      (ix2 ⟨i.val / 2, by omega⟩ l) = (r : IVec S1x128 32) (ix2 0 l) := by pointwise
  rw [e, hr, dup_half _ _ (by omega) hz, ofBits_nib]
  · rw [BitVec.toNat_setWidth, Nat.mod_eq_of_lt (by omega)]
  · rw [BitVec.toNat_setWidth, Nat.mod_eq_of_lt (by omega)]; exact hz

theorem scaleRow_apply (r : Vec Ideal S1x128 .bf16) (i : Fin 16) (l : Fin 128) :
    scaleRow (F := Ideal) r (ix2 i l) = r (ix2 0 l) := by
  pointwise [scaleRow]

/-- 16 rows of a field dequantised, at an entry. -/
theorem deq_apply (h : Fin 2) (f : Fin 4) (w : Vec Ideal S16x128 .i32) (zr : Vec Ideal S1x128 .i32) (sr : Vec Ideal S1x128 .bf16)
    (z : BitVec 32) (hz : z.toNat < 16) (i : Fin 16) (l : Fin 128) (hr : (zr : IVec S1x128 32) (ix2 0 l) = (z ||| z <<< 16) ||| 1124090624#32) :
    deq (F := Ideal) f (words h w) (zeroRow zr) (scaleRow sr) (ix2 i l)
      = (((nib ((w : IVec S16x128 32) (ix2 i l)) (4 * h.val + f.val) : ℝ) : EReal) - ((z.toNat : ℝ) : EReal)) * sr (ix2 0 l) := by
  rw [← sub_offset, ← field_apply, ← zeroRow_apply zr z hz i l hr, ← scaleRow_apply sr i l]
  rfl

end Cert.Awq.KI

end
-- ==== Proof.Value.Sum.lean ====
/-
  The accumulators at exact arithmetic: the passes of the 28 trips add up to one sum over all 7168 rows of the weights.
-/
module

public import proofs.«01_k».proof.Proof.Unit
public import Idealize.ShloMosaic.Lib.MatmulPlain
public import Idealize.ShloMosaic.Lib.Pointwise

@[expose] public section

noncomputable section

namespace Cert.Awq

open Idealize.ShloMosaic Idealize.ShloMosaic.Mxu

/-- One pass, at an entry. -/
theorem term_apply (v : Tile Ideal) (x : Piece Ideal) (r : Fin 32) (c : Fin 256) :
    term v x (ix2 r c) = ∑ k : Fin 256, x (ix2 r k) * v (ix2 k c) := by
  show Ideal.mxuPass (DotDims.plain 32 256 256) x v (ix2 r c) = _
  unfold Ideal.mxuPass
  rw [← Equiv.sum_comp (DotDims.plainContr 32 256 256).symm]
  refine Finset.sum_congr rfl fun k _ => ?_
  have hk := ValueIdx.contrEquiv1_symm_val _ 256 (DotDims.plain_contr_rank 32 256 256) (DotDims.plain_contr_size 32 256 256) k
  have el : (DotDims.plain 32 256 256).lhsIdx (ix2 r c) ((DotDims.plainContr 32 256 256).symm k) = ix2 r k := by
    funext a; apply Fin.ext
    match a with
    | ⟨0, _⟩ => rfl
    | ⟨1, _⟩ => exact hk
  have er : (DotDims.plain 32 256 256).rhsIdx (ix2 r c) ((DotDims.plainContr 32 256 256).symm k) = ix2 k c := by
    funext a; apply Fin.ext
    match a with
    | ⟨0, _⟩ => exact hk
    | ⟨1, _⟩ => rfl
  rw [el, er]

/-- An accumulator is the sum of the passes so far. -/
theorem accTo_eq_sum (v : ℕ → Tile Ideal) (x : ℕ → Piece Ideal) (n : ℕ) (i : (Mxu.STile 32).Idx) :
    accTo v x n i = ∑ t ∈ Finset.range n, term (v t) (x t) i := by
  induction n with
  | zero => exact Ideal.ofBits_zero_f32
  | succ n ih =>
    rw [Finset.sum_range_succ, ← ih]
    show deposit (decide (0 < n)) (accTo v x n i) (term (v n) (x n) i) = accTo v x n i + term (v n) (x n) i
    cases n with
    | zero => rw [ih]; exact (zero_add _).symm
    | succ n => rfl

/-- 28 sums of 256 terms are one sum of 7168. -/
theorem sum_split (g : Fin 7168 → EReal) :
    ∑ t ∈ Finset.range 28, ∑ k : Fin 256, g ⟨(256 * (t % 28) + k.val) % 7168, Nat.mod_lt _ (by decide)⟩ = ∑ R : Fin 7168, g R := by
  rw [Finset.sum_range, ← Fintype.sum_prod_type']
  refine Fintype.sum_equiv (finProdFinEquiv (m := 28) (n := 256)) _ _ fun p => congrArg g (Fin.ext ?_)
  show (256 * (p.1.val % 28) + p.2.val) % 7168 = p.2.val + 256 * p.1.val
  omega

end Cert.Awq

end
-- ==== Proof.Value.Weights.lean ====
/-
  The kernel's tiles and accumulators at exact arithmetic, in terms of its blocks: the tile of half `h` and unit `m`
  holds the weights of fields `4 h + 2 m` and `4 h + 2 m + 1`, and the accumulators popped after the loop hold the
  activations' rows times those weights.
-/
module

public import proofs.«01_k».proof.Proof.Value.Dequant
public import proofs.«01_k».proof.Proof.Value.Sum
public import proofs.«01_k».proof.Proof.PI.Out

@[expose] public section

set_option maxRecDepth 16384

noncomputable section

namespace Cert.Awq.KI

open Cert.KernelIdeal Cert.KernelIdeal.Gen Idealize.ShloMosaic Idealize.ShloMosaic.TcCoe

variable (x0 : Vec Ideal S256x7168 .bf16) (x1 : Vec Ideal S7168x128 .i32) (x2 : Vec Ideal S448x128 .bf16) (x3 : Vec Ideal S448x128 .i32)
  (zp : Fin 56 → Fin 8 → Fin 128 → BitVec 32)

/-- The weight of row `R`, field `f`, lane `l`: `(nibble − zero point) · scale`. -/
def wt (R : Fin 7168) (f : Fin 8) (l : Fin 128) : EReal :=
  (((nib ((x1 : IVec S7168x128 32) (ix2 R l)) f.val : ℝ) : EReal) - (((zp ⟨R.val / 128, by omega⟩ f l).toNat : ℝ) : EReal))
    * x2 (ix2 ⟨8 * (R.val / 128) + f.val, by omega⟩ l)

/-- The zero points as the kernel is given them: each at both halves of a word, under the pattern `0x4300`. -/
structure Zeros : Prop where
  lt : ∀ g f l, (zp g f l).toNat < 16
  word : ∀ (g : Fin 56) (f : Fin 8) (l : Fin 128),
    (x3 : IVec S448x128 32) (ix2 ⟨8 * g.val + f.val, by omega⟩ l) = (zp g f l ||| zp g f l <<< 16) ||| 1124090624#32

theorem trip_lt (k : Fin k0_t1_loop.trips) : k.val < 28 := Nat.lt_of_lt_of_le k.isLt k0_t1_abs.2.1

variable {x0 x1 x2 x3 zp}

theorem wt_congr {R R' : Fin 7168} {f f' : Fin 8} {l l' : Fin 128} (hR : R.val = R'.val) (hf : f.val = f'.val) (hl : l.val = l'.val) :
    wt x1 x2 zp R f l = wt x1 x2 zp R' f' l' := by
  rw [Fin.ext hR, Fin.ext hf, Fin.ext hl]

/-- A load of whole rows. -/
theorem ld_rows {N n : ℕ} {e : EltTy} (x : Vec Ideal ⟨2, ![N, 128]⟩ e) (off : Fin 2 → ℕ)
    (inb : ∀ a, off a + (![n, 128] : Fin 2 → ℕ) a ≤ (![N, 128] : Fin 2 → ℕ) a) (o : ℕ) (ho : off = ![o, 0]) (i : Fin n) (l : Fin 128)
    (R : Fin N) (hR : R.val = o + i.val) :
    View.ld x (Rect.unit (s := ⟨2, ![N, 128]⟩) off ![n, 128] inb) (ix2 i l) = x (ix2 R l) := by
  subst ho
  refine View.ld_unit_apply_of _ _ _ _ _ _ fun a => ?_
  match a with
  | ⟨0, _⟩ => exact hR
  | ⟨1, _⟩ => exact (Nat.zero_add _).symm

/-- 16 rows of a field. -/
theorem deqAt_apply (hz : Zeros x3 zp) (k : Fin k0_t1_loop.trips) (h : Fin 2) (f : Fin 4) (g : Fin 2) (r : Fin 8) (i : Fin 16) (l : Fin 128) :
    deqAt x1 x2 x3 k h f g r (ix2 i l)
      = wt x1 x2 zp ⟨256 * k.val + 128 * g.val + 16 * r.val + i.val, by have := trip_lt k; omega⟩ ⟨4 * h.val + f.val, by omega⟩ l := by
  have hk := trip_lt k
  have ew : wAt x1 k g r (ix2 i l) = x1 (ix2 ⟨256 * k.val + 128 * g.val + 16 * r.val + i.val, by omega⟩ l) :=
    ld_rows x1 _ _ _ (k0_off2_eq k g r) i l _ rfl
  have eo : 8 * (2 * k.val + g.val) + (4 * h.val + f.val) = 16 * k.val + 8 * g.val + 4 * h.val + f.val + 0 := by omega
  have es : sAt x2 k g h f (ix2 0 l) = x2 (ix2 ⟨8 * (2 * k.val + g.val) + (4 * h.val + f.val), by omega⟩ l) :=
    ld_rows x2 _ _ _ (k0_off1_eq k g h f) 0 l _ eo
  have ez : zAt x3 k g h f (ix2 0 l) = x3 (ix2 ⟨8 * (2 * k.val + g.val) + (4 * h.val + f.val), by omega⟩ l) :=
    ld_rows x3 _ _ _ (k0_off1_eq k g h f) 0 l _ eo
  have hzw := hz.word ⟨2 * k.val + g.val, by omega⟩ ⟨4 * h.val + f.val, by omega⟩ l
  unfold deqAt
  rw [deq_apply h f (wAt x1 k g r) (zAt x3 k g h f) (sAt x2 k g h f) (zp ⟨2 * k.val + g.val, by omega⟩ ⟨4 * h.val + f.val, by omega⟩ l)
    (hz.lt _ _ _) i l (ez.trans hzw), ew, es, wt]
  have eR : (256 * k.val + 128 * g.val + 16 * r.val + i.val) / 128 = 2 * k.val + g.val := by omega
  simp only [eR]

/-- 16 rows of a tile. -/
theorem rows_apply (hz : Zeros x3 zp) (k : Fin k0_t1_loop.trips) (h m g : Fin 2) (r : Fin 8) (i : Fin 16) (c : Fin 256) :
    rows x1 x2 x3 k h m g r (ix2 i c)
      = wt x1 x2 zp ⟨256 * k.val + 128 * g.val + 16 * r.val + i.val, by have := trip_lt k; omega⟩
          ⟨4 * h.val + 2 * m.val + c.val / 128, by omega⟩ ⟨c.val % 128, by omega⟩ := by
  have hm : m = 0 ∨ m = 1 := by omega
  rcases hm with rfl | rfl
  all_goals
    unfold rows
    dsimp only
    pointwise
    split
    · rw [deqAt_apply hz]
      refine wt_congr rfl ?_ ?_
      · simp; omega
      · simp; omega
    · rw [deqAt_apply hz]
      refine wt_congr rfl ?_ ?_
      · simp; omega
      · simp; omega

/-- A tile. -/
theorem tile_apply (hz : Zeros x3 zp) (k : Fin k0_t1_loop.trips) (h m : Fin 2) (R c : Fin 256) :
    tile x1 x2 x3 k h m (ix2 R c)
      = wt x1 x2 zp ⟨256 * k.val + R.val, by have := trip_lt k; omega⟩
          ⟨4 * h.val + 2 * m.val + c.val / 128, by omega⟩ ⟨c.val % 128, by omega⟩ := by
  refine (concatenate_ofFn_apply (t := S256x256) (s₁ := S16x256) 0
    (fun n : Fin 16 => rows x1 x2 x3 k h m ⟨n.val / 8, by omega⟩ ⟨n.val % 8, by omega⟩)
    concatenates_S16x256_S16x256_S16x256_S16x256_S16x256_S16x256_S16x256_S16x256_S16x256_S16x256_S16x256_S16x256_S16x256_S16x256_S16x256_S16x256_S256x256_d0
    rfl 16 rfl (ix2 R c) ⟨R.val / 16, by omega⟩ rfl (ix2 ⟨R.val % 16, by omega⟩ c) rfl (fun b hb => ?_)).trans ?_
  · match b with
    | ⟨0, _⟩ => exact absurd rfl hb
    | ⟨1, _⟩ => rfl
  rw [rows_apply hz]
  refine wt_congr ?_ rfl rfl
  show 256 * k.val + 128 * (R.val / 16 / 8) + 16 * (R.val / 16 % 8) + R.val % 16 = 256 * k.val + R.val
  omega

/-- A load of 32 rows and 256 columns of the activations. -/
theorem xload (k : Fin k0_t1_loop.trips) (p : Fin 8) (off : Fin 2 → ℕ) (inb : ∀ a, off a + S32x256.size a ≤ S256x7168.size a)
    (ho : off = ![32 * p.val, 256 * k.val]) (r : Fin 32) (c : Fin 256) :
    shapeCast S32x256 (View.ld x0 (Rect.unit (s := S256x7168) off S32x256.size inb)) shapeCasts_S32x256_S32x256 (ix2 r c)
      = x0 (ix2 ⟨32 * p.val + r.val, by omega⟩ ⟨256 * k.val + c.val, by have := trip_lt k; omega⟩) := by
  subst ho
  refine (congrFun (shapeCast_self _ _) _).trans ?_
  refine View.ld_unit_apply_of _ _ _ _ _ _ fun a => ?_
  match a with
  | ⟨0, _⟩ => rfl
  | ⟨1, _⟩ => rfl

/-- A piece of the activations. -/
theorem xAt_apply (k : Fin k0_t1_loop.trips) (p : Fin 8) (r : Fin 32) (c : Fin 256) :
    xAt x0 k p (ix2 r c) = x0 (ix2 ⟨32 * p.val + r.val, by omega⟩ ⟨256 * k.val + c.val, by have := trip_lt k; omega⟩) :=
  match p with
  | 0 => xload k 0 _ _ (k0_off3_eq k) r c
  | 1 => xload k 1 _ _ (k0_off4_eq k) r c
  | 2 => xload k 2 _ _ (k0_off5_eq k) r c
  | 3 => xload k 3 _ _ (k0_off6_eq k) r c
  | 4 => xload k 4 _ _ (k0_off7_eq k) r c
  | 5 => xload k 5 _ _ (k0_off8_eq k) r c
  | 6 => xload k 6 _ _ (k0_off9_eq k) r c
  | 7 => xload k 7 _ _ (k0_off10_eq k) r c

/-- What is popped for piece `p`, half `h`, unit `m`. -/
theorem popped_apply (hz : Zeros x3 zp) (p : Fin 8) (h m : Fin 2) (r : Fin 32) (c : Fin 256) :
    popped (state x0 x1 x2 x3 k0_t1_loop.trips) p h m (ix2 r c)
      = ∑ R : Fin 7168, x0 (ix2 ⟨32 * p.val + r.val, by omega⟩ R)
          * wt x1 x2 zp R ⟨4 * h.val + 2 * m.val + c.val / 128, by omega⟩ ⟨c.val % 128, by omega⟩ := by
  unfold popped
  rw [popRead_eq, state, read_stateTo, accTo_eq_sum, ← sum_split, show k0_t1_loop.trips = 28 by decide]
  refine Finset.sum_congr rfl fun t _ => ?_
  rw [term_apply]
  refine Finset.sum_congr rfl fun k _ => ?_
  have ht : (tripNo t).val = t % 28 := rfl
  rw [xAt_apply, tile_apply hz]
  have e : 256 * (t % 28) + k.val = (256 * (t % 28) + k.val) % 7168 := by omega
  refine congrArg₂ (fun a b : EReal => a * b) (congrArg x0 ?_) (wt_congr ?_ rfl rfl)
  · exact congrArg (ix2 _) (Fin.ext e)
  · exact e

end Cert.Awq.KI

end
-- ==== Proof.Value.Block.lean ====
/-
  The block that the kernel stores, at exact arithmetic: entry `(I, J)` is row `I` of the activations times the weights
  of lane `J / 8`, of the field whose column residue is `J mod 8`.
-/
module

public import proofs.«01_k».proof.Proof.Value.Net
public import proofs.«01_k».proof.Proof.Value.Weights
public import proofs.«01_k».proof.Proof.PI.Body
public import proofs.«01_k».proof.Proof.Value.Spec

@[expose] public section

set_option maxRecDepth 16384

noncomputable section

namespace Cert.Awq.KI

open Cert.KernelIdeal Cert.KernelIdeal.Gen Idealize.ShloMosaic Idealize.ShloMosaic.TcCoe

/-- A column of a piece, from accumulators given by `G row field lane`. -/
theorem col_apply (y : Fin 2 → Fin 2 → FVec Ideal S32x256 .f32) (G : Fin 32 → Fin 8 → Fin 128 → EReal)
    (hy : ∀ (h m : Fin 2) (r : Fin 32) (c : Fin 256), y h m (ix2 r c) = G r ⟨4 * h.val + 2 * m.val + c.val / 128, by omega⟩ ⟨c.val % 128, by omega⟩)
    (r : Fin 8) (i : Fin 32) (l : Fin 128) : col y r (ix2 i l) = G i (fieldOf r) l := by
  have hl : ∀ h m : Fin 2, left (y h m) (ix2 i l) = G i ⟨4 * h.val + 2 * m.val, by omega⟩ l := by
    intro h m
    refine Eq.trans (b := y h m (ix2 i ⟨l.val, by omega⟩)) ?_ ((hy h m i _).trans ?_)
    · pointwise [left]
    · refine congrArg₂ (G i) (Fin.ext ?_) (Fin.ext ?_)
      · show 4 * h.val + 2 * m.val + l.val / 128 = 4 * h.val + 2 * m.val; omega
      · show l.val % 128 = _; omega
  have hr : ∀ h m : Fin 2, right (y h m) (ix2 i l) = G i ⟨4 * h.val + 2 * m.val + 1, by omega⟩ l := by
    intro h m
    refine Eq.trans (b := y h m (ix2 i ⟨128 + l.val, by omega⟩)) ?_ ((hy h m i _).trans ?_)
    · pointwise [right]
    · refine congrArg₂ (G i) (Fin.ext ?_) (Fin.ext ?_)
      · show 4 * h.val + 2 * m.val + (128 + l.val) / 128 = 4 * h.val + 2 * m.val + 1; omega
      · show (128 + l.val) % 128 = _; omega
  exact match r with
  | 0 => hl 0 0 | 1 => hl 1 0 | 2 => hr 0 0 | 3 => hr 1 0
  | 4 => hl 0 1 | 5 => hl 1 1 | 6 => hr 0 1 | 7 => hr 1 1

theorem band_apply (t : Fin 2) (c : FVec Ideal S32x128 .bf16) (i : Fin 16) (l : Fin 128) :
    band t c (ix2 i l) = c (ix2 ⟨16 * t.val + i.val, by omega⟩ l) := by
  have ht : t = 0 ∨ t = 1 := by omega
  rcases ht with rfl | rfl
  · refine Eq.trans (b := c (ix2 ⟨i.val, by omega⟩ l)) ?_ (congrArg c (congrArg (ix2 · l) (Fin.ext ?_)))
    · pointwise [band]
    · show i.val = 16 * 0 + i.val; omega
  · refine Eq.trans (b := c (ix2 ⟨16 + i.val, by omega⟩ l)) ?_ (congrArg c (congrArg (ix2 · l) (Fin.ext ?_)))
    · pointwise [band]
    · show 16 + i.val = 16 * 1 + i.val; omega

/-- A stored piece: nothing is lost in the roundings, and the network and the gather put the columns in order. -/
theorem stored_apply (y : Fin 2 → Fin 2 → FVec Ideal S32x256 .f32) (t : Fin 2) (q : Fin 8) (i : Fin 16) (l : Fin 128) :
    stored y t q (ix2 i l) = col y ⟨l.val % 8, by omega⟩ (ix2 ⟨16 * t.val + i.val, by omega⟩ ⟨16 * q.val + l.val / 8, by omega⟩) :=
  (interleaved_apply (α := EReal) (fun r => band t (col y r)) q i l).trans (band_apply t _ i _)

variable {x0 : Vec Ideal S256x7168 .bf16} {x1 : Vec Ideal S7168x128 .i32} {x2 : Vec Ideal S448x128 .bf16} {x3 : Vec Ideal S448x128 .i32}
  {zp : Fin 56 → Fin 8 → Fin 128 → BitVec 32}

/-- Entry `(I, J)` of the block. -/
def entry (x0 : Vec Ideal S256x7168 .bf16) (x1 : Vec Ideal S7168x128 .i32) (x2 : Vec Ideal S448x128 .bf16)
    (zp : Fin 56 → Fin 8 → Fin 128 → BitVec 32) (I : Fin 256) (J : Fin 1024) : EReal :=
  ∑ R : Fin 7168, x0 (ix2 I R) * wt x1 x2 zp R (fieldOf ⟨J.val % 8, by omega⟩) ⟨J.val / 8, by omega⟩

/-- Each stored piece agrees with it. -/
theorem piece_at (hz : Zeros x3 zp) (p : Fin 8) (t : Fin 2) (q : Fin 8) (I : Fin 256) (J : Fin 1024) :
    View.TileAt (S := S256x1024) (Val := Elt Ideal) (e := .bf16) (ix2 I J) ![32 * p.val + 16 * t.val, 128 * q.val] S16x128.size
      (stored (popped (state x0 x1 x2 x3 k0_t1_loop.trips) p) t q) (entry x0 x1 x2 zp I J) := by
  intro x hx
  obtain ⟨i, l, rfl⟩ : ∃ (i : Fin 16) (l : Fin 128), x = ix2 i l := ⟨x 0, x 1, eq_ix2 x⟩
  have h0 : I.val = 32 * p.val + 16 * t.val + i.val := hx 0
  have h1 : J.val = 128 * q.val + l.val := hx 1
  rw [stored_apply, col_apply _ (fun r f l => ∑ R : Fin 7168, x0 (ix2 ⟨32 * p.val + r.val, by omega⟩ R) * wt x1 x2 zp R f l)
    (fun h m r c => popped_apply hz p h m r c)]
  unfold entry
  have e0 : (⟨32 * p.val + (16 * t.val + i.val), by omega⟩ : Fin 256) = I := Fin.ext (by show 32 * p.val + (16 * t.val + i.val) = _; omega)
  have e1 : (⟨l.val % 8, by omega⟩ : Fin 8) = ⟨J.val % 8, by omega⟩ := Fin.ext (by show l.val % 8 = J.val % 8; omega)
  have e2 : (⟨16 * q.val + l.val / 8, by omega⟩ : Fin 128) = ⟨J.val / 8, by omega⟩ := Fin.ext (by show 16 * q.val + l.val / 8 = J.val / 8; omega)
  dsimp only
  rw [e0, e1, e2]

theorem band_at (hz : Zeros x3 zp) (p : Fin 8) (t : Fin 2) (I : Fin 256) (J : Fin 1024) (rest : List (View.Piece (Elt Ideal) S256x1024 .bf16))
    (h : View.AllAt rest (ix2 I J) (entry x0 x1 x2 zp I J)) :
    View.AllAt (bandStores (state x0 x1 x2 x3 k0_t1_loop.trips) p t rest) (ix2 I J) (entry x0 x1 x2 zp I J) := by
  unfold bandStores
  exact View.allAt_cons_unit _ _ _ _ _ (piece_at hz p t 7 I J) <| View.allAt_cons_unit _ _ _ _ _ (piece_at hz p t 6 I J) <|
    View.allAt_cons_unit _ _ _ _ _ (piece_at hz p t 5 I J) <| View.allAt_cons_unit _ _ _ _ _ (piece_at hz p t 4 I J) <|
    View.allAt_cons_unit _ _ _ _ _ (piece_at hz p t 3 I J) <| View.allAt_cons_unit _ _ _ _ _ (piece_at hz p t 2 I J) <|
    View.allAt_cons_unit _ _ _ _ _ (piece_at hz p t 1 I J) <| View.allAt_cons_unit _ _ _ _ _ (piece_at hz p t 0 I J) h

/-- The block. -/
theorem block_apply (hz : Zeros x3 zp) (I : Fin 256) (J : Fin 1024) : out0_4 x0 x1 x2 x3 (ix2 I J) = entry x0 x1 x2 zp I J := by
  refine View.canon_eq_of_allAt _ _ _ (cover_stores _ _) ?_
  unfold stores
  exact band_at hz 7 1 I J _ <| band_at hz 7 0 I J _ <| band_at hz 6 1 I J _ <| band_at hz 6 0 I J _ <|
    band_at hz 5 1 I J _ <| band_at hz 5 0 I J _ <| band_at hz 4 1 I J _ <| band_at hz 4 0 I J _ <|
    band_at hz 3 1 I J _ <| band_at hz 3 0 I J _ <| band_at hz 2 1 I J _ <| band_at hz 2 0 I J _ <|
    band_at hz 1 1 I J _ <| band_at hz 1 0 I J _ <| band_at hz 0 1 I J _ <| band_at hz 0 0 I J _ <| View.allAt_nil _ _

end Cert.Awq.KI

end
-- ==== Proof.Value.Host.lean ====
/-
  The four arrays the kernel's grid reads, as the host operations before it leave them.
-/
module

public import proofs.«01_k».proof.Proof.Gen.KernelIdeal.Frame
public import proofs.«01_k».proof.Proof.Value.Spec
public import Idealize.ShloMosaic.Lib.Pipeline.Value
public import Idealize.ShloMosaic.Lib.StableHlo.ReadAt

@[expose] public section

set_option maxRecDepth 16384

noncomputable section

namespace Cert.Awq.Host

open Cert.KernelIdeal Cert.KernelIdeal.Gen Idealize.ShloMosaic Idealize.ShloMosaic.TcCoe

variable (m : (ℓ : Loc nD τ sig) → Buf (Elt Idealize.ShloMosaic.Ideal) ℓ) (c : Dev nD)

theorem acts (I : Fin 256) (R : Fin 7168) :
    (V m c main_v0 : FVec Idealize.ShloMosaic.Ideal S256x7168 .bf16) (ix2 I R)
      = (m ((c : Thread nD τ).loc main_arg0) : FVec Idealize.ShloMosaic.Ideal S2x128x7168 .bf16) (ix3 ⟨I.val / 128, by omega⟩ ⟨I.val % 128, by omega⟩ R) := by
  unfold V
  after_reads_at

/-- Eight rows side by side, each known: the list of the eight. -/
theorem stack_eq {α : Type} (p : Fin 8 → (S56x1x2304.Idx → α)) (u0 u1 u2 u3 u4 u5 u6 u7 : S56x1x2304.Idx → α)
    (h0 : u0 = p 0) (h1 : u1 = p 1) (h2 : u2 = p 2) (h3 : u3 = p 3) (h4 : u4 = p 4) (h5 : u5 = p 5) (h6 : u6 = p 6) (h7 : u7 = p 7) :
    concatenate S56x8x2304 1 [⟨S56x1x2304, u0⟩, ⟨S56x1x2304, u1⟩, ⟨S56x1x2304, u2⟩, ⟨S56x1x2304, u3⟩, ⟨S56x1x2304, u4⟩, ⟨S56x1x2304, u5⟩,
        ⟨S56x1x2304, u6⟩, ⟨S56x1x2304, u7⟩]
        concatenates_S56x1x2304_S56x1x2304_S56x1x2304_S56x1x2304_S56x1x2304_S56x1x2304_S56x1x2304_S56x1x2304_S56x8x2304_d1
      = concatenate S56x8x2304 1 (List.ofFn fun f : Fin 8 => (⟨S56x1x2304, p f⟩ : (s : Shape) × (s.Idx → α)))
        concatenates_S56x1x2304_S56x1x2304_S56x1x2304_S56x1x2304_S56x1x2304_S56x1x2304_S56x1x2304_S56x1x2304_S56x8x2304_d1 := by
  subst h0 h1 h2 h3 h4 h5 h6 h7
  rfl

/-! ### The scales, rearranged by field -/

/-- The scales of the columns of residue `r`. -/
def scalePiece (S : FVec Idealize.ShloMosaic.Ideal S56x18432 .bf16) (r : ℕ) (h : S56x2304x8.Slices (![0, 0, r] : Fin 3 → ℕ) S56x2304x1) :
    FVec Idealize.ShloMosaic.Ideal S56x1x2304 .bf16 :=
  broadcastInDim S56x1x2304 ![0, 2] bcast_S56x2304_S56x1x2304_0_2
    (shapeCast S56x2304 (extractStridedSlice S56x2304x1 ![0, 0, r] (shapeCast S56x2304x8 S shapeCasts_S56x18432_S56x2304x8) h) shapeCasts_S56x2304x1_S56x2304)

theorem scaleSlices (f : Fin 8) : S56x2304x8.Slices (![0, 0, (colOf f).val] : Fin 3 → ℕ) S56x2304x1 := by
  fin_cases f
  exacts [slices_S56x2304x8_S56x2304x1_0_0_0, slices_S56x2304x8_S56x2304x1_0_0_2, slices_S56x2304x8_S56x2304x1_0_0_4,
    slices_S56x2304x8_S56x2304x1_0_0_6, slices_S56x2304x8_S56x2304x1_0_0_1, slices_S56x2304x8_S56x2304x1_0_0_3,
    slices_S56x2304x8_S56x2304x1_0_0_5, slices_S56x2304x8_S56x2304x1_0_0_7]

theorem scalePiece_apply (S : FVec Idealize.ShloMosaic.Ideal S56x18432 .bf16) (f : Fin 8) (g : Fin 56) (n : Fin 2304) :
    scalePiece S (colOf f).val (scaleSlices f) (ix3 g 0 n) = S (ix2 g ⟨8 * n.val + (colOf f).val, by omega⟩) := by
  have e : (⟨n.val * 8 + (colOf f).val, by omega⟩ : Fin 18432) = ⟨8 * n.val + (colOf f).val, by omega⟩ := by
    rw [Fin.mk.injEq]; omega
  pointwise [scalePiece]
  rw [e]

theorem scales_term :
    (V m c main_v27 : FVec Idealize.ShloMosaic.Ideal S448x2304 .bf16)
      = (shapeCast S448x2304 (concatenate S56x8x2304 1
          (List.ofFn fun f : Fin 8 => (⟨S56x1x2304, scalePiece (m ((c : Thread nD τ).loc main_arg2)) (colOf f).val (scaleSlices f)⟩ : (s : Shape) × (s.Idx → Idealize.ShloMosaic.Ideal .bf16)))
          concatenates_S56x1x2304_S56x1x2304_S56x1x2304_S56x1x2304_S56x1x2304_S56x1x2304_S56x1x2304_S56x1x2304_S56x8x2304_d1) shapeCasts_S56x8x2304_S448x2304
            : FVec Idealize.ShloMosaic.Ideal S448x2304 .bf16) := by
  dsimp only [V]
  after_reads_simp
  dsimp only [Matrix.cons_val]
  refine congrArg (fun y => shapeCast S448x2304 y shapeCasts_S56x8x2304_S448x2304)
    (stack_eq (fun f : Fin 8 => scalePiece (m ((c : Thread nD τ).loc main_arg2)) (colOf f).val (scaleSlices f)) _ _ _ _ _ _ _ _ ?_ ?_ ?_ ?_ ?_ ?_ ?_ ?_)
  all_goals
    after_reads_simp
    rfl

theorem scales (g : Fin 56) (f : Fin 8) (n : Fin 2304) :
    (V m c main_v27 : FVec Idealize.ShloMosaic.Ideal S448x2304 .bf16) (ix2 ⟨8 * g.val + f.val, by omega⟩ n)
      = (m ((c : Thread nD τ).loc main_arg2) : FVec Idealize.ShloMosaic.Ideal S56x18432 .bf16) (ix2 g ⟨8 * n.val + (colOf f).val, by omega⟩) := by
  refine (congrFun (scales_term m c) _).trans ?_
  pointwise
  exact scalePiece_apply _ f g n

/-! ### The zero points, one field per row, doubled into both halves -/

/-- One field of the zero points. -/
def zeroPiece (Z : IVec S56x2304 32) (sh : BitVec 32) : IVec S56x1x2304 32 :=
  broadcastInDim S56x1x2304 ![0, 2] bcast_S56x2304_S56x1x2304_0_2
    (andi (Host.shrsi Z (broadcastInDim S56x2304 ![] bcast_S_S56x2304 (constantI S_ 32 sh))) (broadcastInDim S56x2304 ![] bcast_S_S56x2304 (constantI S_ 32 15#32)))

/-- The zero point of group `g`, field `f`, packed column `n`. -/
def zeroPoint (Z : IVec S56x2304 32) (g : Fin 56) (f : Fin 8) (n : Fin 2304) : BitVec 32 :=
  IntOp.andi (IntOp.shrsi .host (Z (ix2 g n)) (BitVec.ofNat 32 (4 * f.val))) 15#32

/-- All fields, one per row. -/
def zeroRows (Z : IVec S56x2304 32) : IVec S56x8x2304 32 :=
  concatenate S56x8x2304 1 (List.ofFn fun f : Fin 8 => (⟨S56x1x2304, zeroPiece Z (BitVec.ofNat 32 (4 * f.val))⟩ : (s : Shape) × (s.Idx → BitVec 32)))
    concatenates_S56x1x2304_S56x1x2304_S56x1x2304_S56x1x2304_S56x1x2304_S56x1x2304_S56x1x2304_S56x1x2304_S56x8x2304_d1

theorem zeroRows_apply (Z : IVec S56x2304 32) (g : Fin 56) (f : Fin 8) (n : Fin 2304) : zeroRows Z (ix3 g f n) = zeroPoint Z g f n := by
  unfold zeroRows
  refine (concatenate_ofFn_apply (t := S56x8x2304) (s₁ := S56x1x2304) 1 (fun f : Fin 8 => zeroPiece Z (BitVec.ofNat 32 (4 * f.val))) _ rfl 1 rfl
    (ix3 g f n) f (Nat.div_one _) (ix3 g 0 n) (Nat.mod_one _).symm (fun b hb => ?_)).trans ?_
  · match b with
    | ⟨0, _⟩ => rfl
    | ⟨1, _⟩ => exact absurd rfl hb
    | ⟨2, _⟩ => rfl
  · pointwise [zeroPiece, zeroPoint]

theorem zeros_term :
    (V m c main_v74 : IVec S448x2304 32)
      = (shapeCast S448x2304 (ori (ori (zeroRows (m ((c : Thread nD τ).loc main_arg3)))
          (Host.shli (zeroRows (m ((c : Thread nD τ).loc main_arg3))) (broadcastInDim S56x8x2304 ![] bcast_S_S56x8x2304 (constantI S_ 32 16#32))))
          (broadcastInDim S56x8x2304 ![] bcast_S_S56x8x2304 (constantI S_ 32 1124090624#32))) shapeCasts_S56x8x2304_S448x2304 : IVec S448x2304 32) := by
  dsimp only [V]
  after_reads_simp
  dsimp only [Matrix.cons_val]
  refine congrArg (fun y => shapeCast S448x2304 (ori (ori y (Host.shli y (broadcastInDim S56x8x2304 ![] bcast_S_S56x8x2304 (constantI S_ 32 16#32))))
      (broadcastInDim S56x8x2304 ![] bcast_S_S56x8x2304 (constantI S_ 32 1124090624#32))) shapeCasts_S56x8x2304_S448x2304)
    (stack_eq (fun f : Fin 8 => zeroPiece (m ((c : Thread nD τ).loc main_arg3)) (BitVec.ofNat 32 (4 * f.val))) _ _ _ _ _ _ _ _ ?_ ?_ ?_ ?_ ?_ ?_ ?_ ?_)
  all_goals
    after_reads_simp
    rfl

theorem zeros (g : Fin 56) (f : Fin 8) (n : Fin 2304) :
    (V m c main_v74 : IVec S448x2304 32) (ix2 ⟨8 * g.val + f.val, by omega⟩ n)
      = (zeroPoint (m ((c : Thread nD τ).loc main_arg3)) g f n ||| zeroPoint (m ((c : Thread nD τ).loc main_arg3)) g f n <<< 16) ||| 1124090624#32 := by
  refine (congrFun (zeros_term m c) _).trans ?_
  pointwise
  rw [zeroRows_apply]
  rfl

end Cert.Awq.Host

end
-- ==== Proof.Value.Result.lean ====
/-
  The kernel's result array: every entry is the product's.
-/
module

public import proofs.«01_k».proof.Proof.PI.Run
public import proofs.«01_k».proof.Proof.Value.Block
public import proofs.«01_k».proof.Proof.Value.Host
public import Idealize.ShloMosaic.Lib.Pipeline.ValueKit

@[expose] public section

set_option maxRecDepth 16384

noncomputable section

namespace Cert.Awq.KI

open Cert.KernelIdeal Cert.KernelIdeal.Gen Idealize.ShloMosaic Idealize.ShloMosaic.TcCoe Idealize.ShloMosaic.Tactic

local notation "EI" => Idealize.ShloMosaic.Ideal

variable (m : (ℓ : Loc nD τ sig) → Buf (Elt EI) ℓ) (c : Dev nD) (t : Fin cfg0.N)

/-- The grid has 18 points. -/
theorem points_lt : t.val < 18 := t.isLt

/-- Where each window stands at a grid point. -/
theorem placed : ∀ t : Fin cfg0.N, (cfg0.win 0).index t = ![0, 0] ∧ (cfg0.win 1).index t = ![0, t.val] ∧ (cfg0.win 2).index t = ![0, t.val]
    ∧ (cfg0.win 3).index t = ![0, t.val] ∧ (cfg0.win 4).index t = ![0, t.val] := by
  decide +kernel

theorem read0 (I : Fin 256) (R : Fin 7168) :
    (iblk m c 0 t : FVec EI S256x7168 .bf16) (ix2 I R) = (V m c main_v0 : FVec EI S256x7168 .bf16) (ix2 I R) := by
  obtain ⟨e0, e1, e2, e3, e4⟩ := placed t
  blk_ext [iblk, e0]

theorem read1 (R : Fin 7168) (l : Fin 128) :
    (iblk m c 1 t : IVec S7168x128 32) (ix2 R l)
      = (m ((c : Thread nD τ).loc main_arg1) : IVec S7168x2304 32) (ix2 R ⟨128 * t.val + l.val, by have := points_lt t; omega⟩) := by
  obtain ⟨e0, e1, e2, e3, e4⟩ := placed t
  blk_ext [iblk, e1]

theorem read2 (r : Fin 448) (l : Fin 128) :
    (iblk m c 2 t : FVec EI S448x128 .bf16) (ix2 r l)
      = (V m c main_v27 : FVec EI S448x2304 .bf16) (ix2 r ⟨128 * t.val + l.val, by have := points_lt t; omega⟩) := by
  obtain ⟨e0, e1, e2, e3, e4⟩ := placed t
  blk_ext [iblk, e2]

theorem read3 (r : Fin 448) (l : Fin 128) :
    (iblk m c 3 t : IVec S448x128 32) (ix2 r l)
      = (V m c main_v74 : IVec S448x2304 32) (ix2 r ⟨128 * t.val + l.val, by have := points_lt t; omega⟩) := by
  obtain ⟨e0, e1, e2, e3, e4⟩ := placed t
  blk_ext [iblk, e3]

/-- The zero points of a block's columns. -/
def blockZeros (g : Fin 56) (f : Fin 8) (l : Fin 128) : BitVec 32 :=
  Host.zeroPoint (m ((c : Thread nD τ).loc main_arg3)) g f ⟨128 * t.val + l.val, by have := points_lt t; omega⟩

theorem zeros_ok : Zeros (iblk m c 3 t : IVec S448x128 32) (blockZeros m c t) where
  lt g f l := by
    unfold blockZeros Host.zeroPoint
    rw [field_toNat]
    exact nib_lt _ _
  word g f l := (read3 m c t _ l).trans (Host.zeros m c g f _)

/-- A block's weight is the weight of its column. -/
theorem wt_eq (R : Fin 7168) (f : Fin 8) (l : Fin 128) :
    wt (iblk m c 1 t) (iblk m c 2 t) (blockZeros m c t) R f l
      = weight (m ((c : Thread nD τ).loc main_arg1)) (m ((c : Thread nD τ).loc main_arg2)) (m ((c : Thread nD τ).loc main_arg3)) R f
          ⟨128 * t.val + l.val, by have := points_lt t; omega⟩ := by
  unfold wt weight
  rw [read1]
  rw [show (iblk m c 2 t : FVec EI S448x128 .bf16) (ix2 ⟨8 * (R.val / 128) + f.val, by omega⟩ l) = _ from
    (read2 m c t _ l).trans (Host.scales m c ⟨R.val / 128, by omega⟩ f _)]
  unfold blockZeros Host.zeroPoint
  rw [field_toNat]

/-- A block's entry is the product's entry in the block's columns. -/
theorem entry_eq (I : Fin 256) (J : Fin 1024) (o : Fin 18432) (ho : o.val = 1024 * t.val + J.val) :
    entry (iblk m c 0 t) (iblk m c 1 t) (iblk m c 2 t) (blockZeros m c t) I J
      = product (m ((c : Thread nD τ).loc main_arg0)) (m ((c : Thread nD τ).loc main_arg1)) (m ((c : Thread nD τ).loc main_arg2))
          (m ((c : Thread nD τ).loc main_arg3)) I o := by
  unfold entry product
  refine Finset.sum_congr rfl fun R _ => ?_
  have ef : (⟨J.val % 8, by omega⟩ : Fin 8) = ⟨o.val % 8, by omega⟩ := by rw [Fin.mk.injEq]; omega
  have en : (⟨128 * t.val + J.val / 8, by have := points_lt t; omega⟩ : Fin 2304) = ⟨o.val / 8, by omega⟩ := by rw [Fin.mk.injEq]; omega
  rw [wt_eq, ef, en, show (iblk m c 0 t : FVec EI S256x7168 .bf16) (ix2 I R) = _ from (read0 m c t I R).trans (Host.acts m c I R)]

/-- The result array at an index. -/
def resultOf : FVec EI S256x18432 .bf16 := fun j =>
  product (m ((c : Thread nD τ).loc main_arg0)) (m ((c : Thread nD τ).loc main_arg1)) (m ((c : Thread nD τ).loc main_arg2))
    (m ((c : Thread nD τ).loc main_arg3)) (j 0) (j 1)

theorem result_eq : (dats m 0 c).arrAt 4 cfg0.N = resultOf m c := by
  refine (dats m 0 c).arrAt_eq_of_covers 4 _ (by decide +kernel) fun t hf y => ?_
  obtain ⟨e0, e1, e2, e3, e4⟩ := placed t
  obtain ⟨I, J, rfl⟩ : ∃ (I : Fin 256) (J : Fin 1024), y = ix2 I J := ⟨y 0, y 1, eq_ix2 y⟩
  blk_simp
  rw [after0_4]
  have h0 : ((((cfg0.win 4).blk t).view.emb (ix2 I J)) 0 : Fin 256) = I := by
    apply Fin.ext
    blk_simp [e4]
  have h1 : (((((cfg0.win 4).blk t).view.emb (ix2 I J)) 1 : Fin 18432)).val = 1024 * t.val + J.val := by
    blk_simp [e4]
    omega
  rw [block_apply (zeros_ok m c t) I J, entry_eq m c t I J _ h1]
  exact congrArg (fun i => product (m ((c : Thread nD τ).loc main_arg0)) (m ((c : Thread nD τ).loc main_arg1)) (m ((c : Thread nD τ).loc main_arg2))
    (m ((c : Thread nD τ).loc main_arg3)) i ((((cfg0.win 4).blk t).view.emb (ix2 I J)) 1)) h0.symm

end Cert.Awq.KI

end
-- ==== Proof.lean ====
/-
  The claims about the kernel, assembled from the modules of Proof/.
-/
module

public import proofs.«01_k».proof.Defs
public import proofs.«01_k».proof.Proof.P.Run
public import proofs.«01_k».proof.Proof.PI.Run
public import proofs.«01_k».proof.Proof.Value.Reference
public import proofs.«01_k».proof.Proof.Value.Result
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Bf16Pair

@[expose] public section

noncomputable section

namespace Cert.Proof

open Idealize.ShloMosaic Idealize.SL.Sem

/-- The kernel as it is compiled: its arguments end unchanged, every counter at zero. -/
theorem frame_p : Cert.quiescent_Kernel := fun m ρ _ => Cert.Awq.K.frame m ρ

/-- The same of its idealization. -/
theorem frame_pi : Cert.quiescent_KernelIdeal := fun m ρ _ => Cert.Awq.KI.frame m ρ

/-- The same of the reference. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealization keeps what the words' halves are: 16 rows of bf16 as 8 rows of words. -/
theorem preserves : Cert.preserves_Kernel_KernelIdeal :=
  IdealRules.bf16_pair.statement Cert.KernelIdeal.S16x128 Cert.KernelIdeal.S8x128

/-- The reference's result, as one array. -/
theorem reference_eq (m' : (ℓ : Loc Cert.ReferenceIdeal.nD Cert.ReferenceIdeal.τ Cert.ReferenceIdeal.sig) → Buf (Elt Ideal) ℓ) (c : Dev Cert.ReferenceIdeal.nD) :
    (truncf .bf16 (shapeCast _ (Cert.ReferenceIdeal.Value.res_main_v168 (StableHlo.launchContents m' c) : FVec Ideal Cert.ReferenceIdeal.S2x128x2304x8 .f32)
        Cert.ReferenceIdeal.Gen.shapeCasts_S2x128x2304x8_S256x18432) Cert.ReferenceIdeal.Gen.bitsLt_bf16_f32 : FVec Ideal Cert.ReferenceIdeal.S256x18432 .bf16)
      = fun j => Cert.Awq.product (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)) (j 0) (j 1) := by
  funext j
  obtain ⟨I, o, rfl⟩ : ∃ (I : Fin 256) (o : Fin 18432), j = ix2 I o := ⟨j 0, j 1, eq_ix2 j⟩
  exact Cert.Awq.Ref.result_apply (StableHlo.launchContents m' c) I o

/-- At exact arithmetic the kernel and the reference, from the same arguments, end with the same array. -/
theorem algebraic : Cert.algebraic_KernelIdeal_ReferenceIdeal := by
  intro m ρ m' ρ' _ hagree
  refine ⟨fun c => Cert.Awq.KI.resultOf m c, (θ_run Cert.KernelIdeal.defs _ _).mono
    (fun _ h c => ⟨(h c).1.trans (Cert.Awq.KI.result_eq m c), (h c).2⟩) (Cert.Awq.KI.run_blocks (F := Ideal) m ρ), ?_⟩
  refine (θ_run Cert.ReferenceIdeal.defs _ _).mono (fun _ h c => ⟨(h c).1.trans ((reference_eq m' c).trans ?_), (h c).2⟩)
    (Cert.ReferenceIdeal.Value.run (F := Ideal) m' ρ')
  rw [(hagree c).1, (hagree c).2.1, (hagree c).2.2.1, (hagree c).2.2.2]
  rfl

theorem claim : Cert.Claim := ⟨Cert.Kernel.Gen.facts, Cert.KernelIdeal.Gen.facts, Cert.ReferenceIdeal.Gen.facts,
  frame_p, frame_pi, frame_ri, preserves, algebraic⟩

end Cert.Proof

end
